-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonzero [hPre_finite_and_nonzero : Cert.Pre_finite_and_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonzero [hPre_finite_and_nonzero : Cert.Pre_finite_and_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_and_nonzero [hKernelIdeal : Cert.KernelIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_and_nonzero [hReferenceIdeal : Cert.ReferenceIdeal.Facts] [hPre_finite_and_nonzero : Cert.Pre_finite_and_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_and_nonzero [hKernelIdeal : Cert.KernelIdeal.Facts] [hReferenceIdeal : Cert.ReferenceIdeal.Facts] [hPre_finite_and_nonzero : Cert.Pre_finite_and_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_and_nonzero : Cert.Pre_finite_and_nonzero.Facts),
    quiescent_Kernel (hKernel := hKernel)
    ∧ quiescent_KernelIdeal (hKernelIdeal := hKernelIdeal)
    ∧ quiescent_KernelIdeal_pre_finite_and_nonzero (hKernelIdeal := hKernelIdeal) (hPre_finite_and_nonzero := hPre_finite_and_nonzero)
    ∧ quiescent_ReferenceIdeal (hReferenceIdeal := hReferenceIdeal)
    ∧ quiescent_ReferenceIdeal_pre_finite_and_nonzero (hReferenceIdeal := hReferenceIdeal) (hPre_finite_and_nonzero := hPre_finite_and_nonzero)
    ∧ preserves_Kernel_KernelIdeal
    ∧ algebraic_KernelIdeal_ReferenceIdeal_pre_finite_and_nonzero (hKernelIdeal := hKernelIdeal) (hReferenceIdeal := hReferenceIdeal) (hPre_finite_and_nonzero := hPre_finite_and_nonzero)
-- ==== Pre_finite_and_nonzero.lean ====
abbrev S3000x4x12 : Shape := ⟨3, ![3000, 4, 12]⟩
abbrev S3000 : Shape := ⟨1, ![3000]⟩
abbrev S20480x12 : Shape := ⟨2, ![20480, 12]⟩
abbrev S20480 : Shape := ⟨1, ![20480]⟩
abbrev S_ : Shape := ⟨0, ![]⟩
abbrev S3000x1 : Shape := ⟨2, ![3000, 1]⟩
abbrev S1x20480 : Shape := ⟨2, ![1, 20480]⟩
abbrev S3000x20480 : Shape := ⟨2, ![3000, 20480]⟩

class Facts : Prop where
  bcast_S_S3000 : S_.BroadcastsInDim S3000 (![] : Fin 0 → Fin S3000.rank)
  bcast_S3000_S3000x1_0 : S3000.BroadcastsInDim S3000x1 (![0] : Fin 1 → Fin S3000x1.rank)
  bcast_S_S20480 : S_.BroadcastsInDim S20480 (![] : Fin 0 → Fin S20480.rank)
  bcast_S20480_S1x20480_1 : S20480.BroadcastsInDim S1x20480 (![1] : Fin 1 → Fin S1x20480.rank)
  bcast_S3000x1_S3000x20480_0_1 : S3000x1.BroadcastsInDim S3000x20480 (![0, 1] : Fin 2 → Fin S3000x20480.rank)
  bcast_S1x20480_S3000x20480_0_1 : S1x20480.BroadcastsInDim S3000x20480 (![0, 1] : Fin 2 → Fin S3000x20480.rank)

variable [Facts]

def fn {F : FTy → Type} [FloatOps F] (main_arg0 : IVec S3000x4x12 32) (main_arg1 : FVec F S3000 .f32) (main_arg2 : FVec F S3000 .f32) (main_arg3 : FVec F S3000 .f32) (main_arg4 : FVec F S3000 .f32) (main_arg5 : IVec S20480x12 32) (main_arg6 : FVec F S20480 .f32) (main_arg7 : FVec F S20480 .f32) : IVec S3000x20480 1 :=
  let main_cst : FVec F S_ .f32 := constant S_ .f32 0xFF800000#32
  let main_v0 : FVec F S3000 .f32 := broadcastInDim S3000 ![] bcast_S_S3000 main_cst
  let main_v1 : IVec S3000 1 := cmpf .ogt main_arg2 main_v0
  let main_cst_0 : FVec F S_ .f32 := constant S_ .f32 0x7F800000#32
  let main_v2 : FVec F S3000 .f32 := broadcastInDim S3000 ![] bcast_S_S3000 main_cst_0
  let main_v3 : IVec S3000 1 := cmpf .olt main_arg2 main_v2
  let main_v4 : IVec S3000 1 := andi main_v1 main_v3
  let main_v5 : IVec S3000x1 1 := broadcastInDim S3000x1 ![0] bcast_S3000_S3000x1_0 main_v4
  let main_cst_1 : FVec F S_ .f32 := constant S_ .f32 0x00000000#32
  let main_v6 : FVec F S20480 .f32 := broadcastInDim S20480 ![] bcast_S_S20480 main_cst_1
  let main_v7 : IVec S20480 1 := cmpf .une main_arg7 main_v6
  let main_v8 : IVec S1x20480 1 := broadcastInDim S1x20480 ![1] bcast_S20480_S1x20480_1 main_v7
  let main_v9 : IVec S3000x20480 1 := broadcastInDim S3000x20480 ![0, 1] bcast_S3000x1_S3000x20480_0_1 main_v5
  let main_v10 : IVec S3000x20480 1 := broadcastInDim S3000x20480 ![0, 1] bcast_S1x20480_S3000x20480_0_1 main_v8
  let main_v11 : IVec S3000x20480 1 := andi main_v9 main_v10
  main_v11
-- ==== Kernel.lean ====
abbrev S3000x4x12 : Shape := ⟨3, ![3000, 4, 12]⟩
abbrev S3000 : Shape := ⟨1, ![3000]⟩
abbrev S20480x12 : Shape := ⟨2, ![20480, 12]⟩
abbrev S20480 : Shape := ⟨1, ![20480]⟩
abbrev S12x4x3000 : Shape := ⟨3, ![12, 4, 3000]⟩
abbrev S1x3000 : Shape := ⟨2, ![1, 3000]⟩
abbrev S12x20480 : Shape := ⟨2, ![12, 20480]⟩
abbrev S1x20480 : Shape := ⟨2, ![1, 20480]⟩
abbrev S3000x20480 : Shape := ⟨2, ![3000, 20480]⟩
abbrev S12x4x512 : Shape := ⟨3, ![12, 4, 512]⟩
abbrev S1x512 : Shape := ⟨2, ![1, 512]⟩
abbrev S12x2048 : Shape := ⟨2, ![12, 2048]⟩
abbrev S1x2048 : Shape := ⟨2, ![1, 2048]⟩
abbrev S512x2048 : Shape := ⟨2, ![512, 2048]⟩
abbrev S6x512x384 : Shape := ⟨3, ![6, 512, 384]⟩
abbrev S6x4x512x128 : Shape := ⟨4, ![6, 4, 512, 128]⟩
abbrev S384x2048 : Shape := ⟨2, ![384, 2048]⟩
abbrev S8x2048 : Shape := ⟨2, ![8, 2048]⟩
abbrev S16x2048 : Shape := ⟨2, ![16, 2048]⟩
abbrev S32x2048 : Shape := ⟨2, ![32, 2048]⟩
abbrev S2048 : Shape := ⟨1, ![2048]⟩
abbrev S32x512 : Shape := ⟨2, ![32, 512]⟩
abbrev S1x1x512 : Shape := ⟨3, ![1, 1, 512]⟩
abbrev S128x512 : Shape := ⟨2, ![128, 512]⟩
abbrev S512x128 : Shape := ⟨2, ![512, 128]⟩
abbrev S1x512x384 : Shape := ⟨3, ![1, 512, 384]⟩
abbrev S512x384 : Shape := ⟨2, ![512, 384]⟩
abbrev S1x512x128 : Shape := ⟨3, ![1, 512, 128]⟩
abbrev S1x1x512x128 : Shape := ⟨4, ![1, 1, 512, 128]⟩
abbrev S384x256 : Shape := ⟨2, ![384, 256]⟩
abbrev S512x256 : Shape := ⟨2, ![512, 256]⟩
abbrev S1x128 : Shape := ⟨2, ![1, 128]⟩

abbrev nBuf : Space → Nat
  | .hbm => 19
  | .vmem => 26
  | .smem => 0
  | _ => 0

abbrev bufTy : (tb : Table) → Fin (tcTables nBuf tb) → BufTy
  | .hbm, ⟨0, _⟩ => ⟨S3000x4x12, .i32⟩
  | .hbm, ⟨1, _⟩ => ⟨S3000, .f32⟩
  | .hbm, ⟨2, _⟩ => ⟨S3000, .f32⟩
  | .hbm, ⟨3, _⟩ => ⟨S3000, .f32⟩
  | .hbm, ⟨4, _⟩ => ⟨S3000, .f32⟩
  | .hbm, ⟨5, _⟩ => ⟨S20480x12, .i32⟩
  | .hbm, ⟨6, _⟩ => ⟨S20480, .f32⟩
  | .hbm, ⟨7, _⟩ => ⟨S20480, .f32⟩
  | .hbm, ⟨8, _⟩ => ⟨S12x4x3000, .i32⟩
  | .hbm, ⟨9, _⟩ => ⟨S1x3000, .f32⟩
  | .hbm, ⟨10, _⟩ => ⟨S1x3000, .f32⟩
  | .hbm, ⟨11, _⟩ => ⟨S1x3000, .f32⟩
  | .hbm, ⟨12, _⟩ => ⟨S1x3000, .f32⟩
  | .hbm, ⟨13, _⟩ => ⟨S12x20480, .i32⟩
  | .hbm, ⟨14, _⟩ => ⟨S1x20480, .f32⟩
  | .hbm, ⟨15, _⟩ => ⟨S1x20480, .f32⟩
  | .hbm, ⟨16, _⟩ => ⟨S3000x20480, .f32⟩
  | .hbm, ⟨17, _⟩ => ⟨S3000x20480, .f32⟩
  | .hbm, ⟨18, _⟩ => ⟨S3000x20480, .f32⟩
  | .local _ .vmem, ⟨0, _⟩ => ⟨S12x4x512, .i32⟩
  | .local _ .vmem, ⟨1, _⟩ => ⟨S12x4x512, .i32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S12x2048, .i32⟩
  | .local _ .vmem, ⟨11, _⟩ => ⟨S12x2048, .i32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .f32⟩
  | .local _ .vmem, ⟨21, _⟩ => ⟨S512x2048, .f32⟩
  | .local _ .vmem, ⟨22, _⟩ => ⟨S6x512x384, .bf16⟩
  | .local _ .vmem, ⟨23, _⟩ => ⟨S6x4x512x128, .f32⟩
  | .local _ .vmem, ⟨24, _⟩ => ⟨S384x2048, .bf16⟩
  | .local _ .vmem, ⟨25, _⟩ => ⟨S8x2048, .f32⟩
  | _, _ => ⟨S3000x4x12, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![10, 6], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_3 : BitVec 32 := 0#32
  let v5 : BitVec 1 := Scalar.cmpi .ne v4 c0_i32_3
  v5

def k0_off1 (i : grid0.Coords) : Fin 3 → Nat :=
  let arg1 : BitVec 32 := BitVec.ofNat 32 (i 1).val
  let c0_i32_541 : BitVec 32 := 0#32
  let c0_i32_542 : BitVec 32 := 0#32
  ![arg1.toNat, 0, 0]
def k0_off2 (i : grid0.Coords) : Fin 3 → Nat :=
  let arg1 : BitVec 32 := BitVec.ofNat 32 (i 1).val
  let c0_i32_541 : BitVec 32 := 0#32
  let c0_i32_542 : BitVec 32 := 0#32
  ![arg1.toNat, 0, 0]
def k0_off3 (i : grid0.Coords) : Fin 3 → Nat :=
  let arg1 : BitVec 32 := BitVec.ofNat 32 (i 1).val
  let c0_i32_626 : BitVec 32 := 0#32
  ![arg1.toNat, 0, 128]
def k0_off4 (i : grid0.Coords) : Fin 3 → Nat :=
  let arg1 : BitVec 32 := BitVec.ofNat 32 (i 1).val
  let c0_i32_710 : BitVec 32 := 0#32
  ![arg1.toNat, 0, 256]
def k0_off5 (i : grid0.Coords) : Fin 4 → Nat :=
  let arg1 : BitVec 32 := BitVec.ofNat 32 (i 1).val
  let v1164 : Index := Scalar.indexCast arg1
  let c0_720 : Index := 0#32
  let c0_721 : Index := 0#32
  let c0_722 : Index := 0#32
  ![v1164.toNat, 0, 0, 0]
def k0_off6 (i : grid0.Coords) : Fin 4 → Nat :=
  let arg1 : BitVec 32 := BitVec.ofNat 32 (i 1).val
  let v1175 : Index := Scalar.indexCast arg1
  let c1_724 : Index := 1#32
  let c0_725 : Index := 0#32
  let c0_726 : Index := 0#32
  ![v1175.toNat, 1, 0, 0]
def k0_off7 (i : grid0.Coords) : Fin 4 → Nat :=
  let arg1 : BitVec 32 := BitVec.ofNat 32 (i 1).val
  let v1188 : Index := Scalar.indexCast arg1
  let c2_729 : Index := 2#32
  let c0_730 : Index := 0#32
  let c0_731 : Index := 0#32
  ![v1188.toNat, 2, 0, 0]
def k0_off8 (i : grid0.Coords) : Fin 4 → Nat :=
  let arg1 : BitVec 32 := BitVec.ofNat 32 (i 1).val
  let v1195 : Index := Scalar.indexCast arg1
  let c3_732 : Index := 3#32
  let c0_733 : Index := 0#32
  let c0_734 : Index := 0#32
  ![v1195.toNat, 3, 0, 0]
def k0_off9 (i : grid0.Coords) : Fin 3 → Nat :=
  let arg1 : BitVec 32 := BitVec.ofNat 32 (i 1).val
  let v6 : Index := Scalar.indexCast arg1
  let c0 : Index := 0#32
  let c0_4 : Index := 0#32
  ![v6.toNat, 0, 0]
def k0_off10 (i : grid0.Coords) : Fin 4 → Nat :=
  let arg1 : BitVec 32 := BitVec.ofNat 32 (i 1).val
  let v11 : Index := Scalar.indexCast arg1
  let c3 : Index := 3#32
  let c0_8 : Index := 0#32
  let c0_9 : Index := 0#32
  ![v11.toNat, 3, 0, 0]
def k0_off11 (i : grid0.Coords) : Fin 4 → Nat :=
  let arg1 : BitVec 32 := BitVec.ofNat 32 (i 1).val
  let v15 : Index := Scalar.indexCast arg1
  let c0_10 : Index := 0#32
  let c0_11 : Index := 0#32
  let c0_12 : Index := 0#32
  ![v15.toNat, 0, 0, 0]
def k0_off12 (i : grid0.Coords) : Fin 4 → Nat :=
  let arg1 : BitVec 32 := BitVec.ofNat 32 (i 1).val
  let v19 : Index := Scalar.indexCast arg1
  let c1 : Index := 1#32
  let c0_13 : Index := 0#32
  let c0_14 : Index := 0#32
  ![v19.toNat, 1, 0, 0]
def k0_off13 (i : grid0.Coords) : Fin 4 → Nat :=
  let arg1 : BitVec 32 := BitVec.ofNat 32 (i 1).val
  let v26 : Index := Scalar.indexCast arg1
  let c2 : Index := 2#32
  let c0_17 : Index := 0#32
  let c0_18 : Index := 0#32
  ![v26.toNat, 2, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let c0_i32_1 : BitVec 32 := 0#32
  let c0_i32_2 : BitVec 32 := 0#32
  ![c0_i32_0.toNat, c0_i32_1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S12x4x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S12x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S3000x4x12 : Shape := ⟨3, ![3000, 4, 12]⟩
abbrev S3000 : Shape := ⟨1, ![3000]⟩
abbrev S20480x12 : Shape := ⟨2, ![20480, 12]⟩
abbrev S20480 : Shape := ⟨1, ![20480]⟩
abbrev S3000x4x1x12 : Shape := ⟨4, ![3000, 4, 1, 12]⟩
abbrev S1x1x20480x12 : Shape := ⟨4, ![1, 1, 20480, 12]⟩
abbrev S3000x4x20480x12 : Shape := ⟨4, ![3000, 4, 20480, 12]⟩
abbrev S_ : Shape := ⟨0, ![]⟩
abbrev S3000x4x20480 : Shape := ⟨3, ![3000, 4, 20480]⟩
abbrev S4 : Shape := ⟨1, ![4]⟩
abbrev S1x4x1 : Shape := ⟨3, ![1, 4, 1]⟩
abbrev S3000x20480 : Shape := ⟨2, ![3000, 20480]⟩
abbrev S3000x1 : Shape := ⟨2, ![3000, 1]⟩
abbrev S1x20480 : Shape := ⟨2, ![1, 20480]⟩

abbrev nBuf : Space → Nat
  | .hbm => 111
  | .vmem => 0
  | .smem => 0
  | _ => 0

abbrev bufTy : (tb : Table) → Fin (tcTables nBuf tb) → BufTy
  | .hbm, ⟨0, _⟩ => ⟨S3000x4x12, .i32⟩
  | .hbm, ⟨1, _⟩ => ⟨S3000, .f32⟩
  | .hbm, ⟨2, _⟩ => ⟨S3000, .f32⟩
  | .hbm, ⟨3, _⟩ => ⟨S3000, .f32⟩
  | .hbm, ⟨4, _⟩ => ⟨S3000, .f32⟩
  | .hbm, ⟨5, _⟩ => ⟨S20480x12, .i32⟩
  | .hbm, ⟨6, _⟩ => ⟨S20480, .f32⟩
  | .hbm, ⟨7, _⟩ => ⟨S20480, .f32⟩
  | .hbm, ⟨8, _⟩ => ⟨S3000x4x1x12, .i32⟩
  | .hbm, ⟨9, _⟩ => ⟨S1x1x20480x12, .i32⟩
  | .hbm, ⟨10, _⟩ => ⟨S3000x4x20480x12, .i32⟩
  | .hbm, ⟨11, _⟩ => ⟨S3000x4x20480x12, .i32⟩
  | .hbm, ⟨12, _⟩ => ⟨S3000x4x20480x12, .i32⟩
  | .hbm, ⟨13, _⟩ => ⟨S3000x4x20480x12, .i32⟩
  | .hbm, ⟨14, _⟩ => ⟨S3000x4x20480x12, .i32⟩
  | .hbm, ⟨15, _⟩ => ⟨S_, .i32⟩
  | .hbm, ⟨16, _⟩ => ⟨S3000x4x20480, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S1x4x1, .i32⟩
  | .hbm, ⟨22, _⟩ => ⟨S3000x4x20480, .i32⟩
  | .hbm, ⟨23, _⟩ => ⟨S3000x4x20480, .i32⟩
  | .hbm, ⟨24, _⟩ => ⟨S_, .i32⟩
  | .hbm, ⟨25, _⟩ => ⟨S3000x20480, .i32⟩
  | .hbm, ⟨26, _⟩ => ⟨S3000x20480, .f32⟩
  | .hbm, ⟨27, _⟩ => ⟨S20480x12, .i32⟩
  | .hbm, ⟨28, _⟩ => ⟨S20480x12, .i32⟩
  | .hbm, ⟨29, _⟩ => ⟨S_, .i32⟩
  | .hbm, ⟨30, _⟩ => ⟨S20480, .i32⟩
  | .hbm, ⟨31, _⟩ => ⟨S20480, .f32⟩
  | .hbm, ⟨32, _⟩ => ⟨S_, .f32⟩
  | .hbm, ⟨33, _⟩ => ⟨S3000, .f32⟩
  | .hbm, ⟨34, _⟩ => ⟨S3000, .f32⟩
  | .hbm, ⟨35, _⟩ => ⟨S_, .f32⟩
  | .hbm, ⟨36, _⟩ => ⟨S3000, .f32⟩
  | .hbm, ⟨37, _⟩ => ⟨S3000, .f32⟩
  | .hbm, ⟨38, _⟩ => ⟨S3000x1, .f32⟩
  | .hbm, ⟨39, _⟩ => ⟨S3000x20480, .f32⟩
  | .hbm, ⟨40, _⟩ => ⟨S3000x20480, .f32⟩
  | .hbm, ⟨41, _⟩ => ⟨S_, .f32⟩
  | .hbm, ⟨42, _⟩ => ⟨S3000, .f32⟩
  | .hbm, ⟨43, _⟩ => ⟨S3000, .f32⟩
  | .hbm, ⟨44, _⟩ => ⟨S_, .f32⟩
  | .hbm, ⟨45, _⟩ => ⟨S3000, .f32⟩
  | .hbm, ⟨46, _⟩ => ⟨S3000, .f32⟩
  | .hbm, ⟨47, _⟩ => ⟨S3000x1, .f32⟩
  | .hbm, ⟨48, _⟩ => ⟨S1x20480, .f32⟩
  | .hbm, ⟨49, _⟩ => ⟨S3000x20480, .f32⟩
  | .hbm, ⟨50, _⟩ => ⟨S3000x20480, .f32⟩
  | .hbm, ⟨51, _⟩ => ⟨S3000x20480, .f32⟩
  | .hbm, ⟨52, _⟩ => ⟨S3000x20480, .f32⟩
  | .hbm, ⟨53, _⟩ => ⟨S_, .f32⟩
  | .hbm, ⟨54, _⟩ => ⟨S3000, .f32⟩
  | .hbm, ⟨55, _⟩ => ⟨S3000, .f32⟩
  | .hbm, ⟨56, _⟩ => ⟨S3000, .f32⟩
  | .hbm, ⟨57, _⟩ => ⟨S3000x1, .f32⟩
  | .hbm, ⟨58, _⟩ => ⟨S3000x20480, .f32⟩
  | .hbm, ⟨59, _⟩ => ⟨S3000x20480, .f32⟩
  | .hbm, ⟨60, _⟩ => ⟨S_, .f32⟩
  | .hbm, ⟨61, _⟩ => ⟨S3000, .f32⟩
  | .hbm, ⟨62, _⟩ => ⟨S3000, .f32⟩
  | .hbm, ⟨63, _⟩ => ⟨S3000x1, .f32⟩
  | .hbm, ⟨64, _⟩ => ⟨S3000x20480, .f32⟩
  | .hbm, ⟨65, _⟩ => ⟨S3000x20480, .f32⟩
  | .hbm, ⟨66, _⟩ => ⟨S1x20480, .f32⟩
  | .hbm, ⟨67, _⟩ => ⟨S3000x20480, .f32⟩
  | .hbm, ⟨68, _⟩ => ⟨S3000x20480, .f32⟩
  | .hbm, ⟨69, _⟩ => ⟨S1x20480, .f32⟩
  | .hbm, ⟨70, _⟩ => ⟨S1x20480, .f32⟩
  | .hbm, ⟨71, _⟩ => ⟨S3000x1, .f32⟩
  | .hbm, ⟨72, _⟩ => ⟨S3000x1, .f32⟩
  | .hbm, ⟨73, _⟩ => ⟨S3000x20480, .f32⟩
  | .hbm, ⟨74, _⟩ => ⟨S3000x20480, .f32⟩
  | .hbm, ⟨75, _⟩ => ⟨S3000x20480, .f32⟩
  | .hbm, ⟨76, _⟩ => ⟨S1x20480, .f32⟩
  | .hbm, ⟨77, _⟩ => ⟨S_, .f32⟩
  | .hbm, ⟨78, _⟩ => ⟨S1x20480, .f32⟩
  | .hbm, ⟨79, _⟩ => ⟨S1x20480, .f32⟩
  | .hbm, ⟨80, _⟩ => ⟨S3000x1, .f32⟩
  | .hbm, ⟨81, _⟩ => ⟨S3000x20480, .f32⟩
  | .hbm, ⟨82, _⟩ => ⟨S3000x20480, .f32⟩
  | .hbm, ⟨83, _⟩ => ⟨S3000x20480, .f32⟩
  | .hbm, ⟨84, _⟩ => ⟨S3000x20480, .f32⟩
  | .hbm, ⟨85, _⟩ => ⟨S3000x20480, .f32⟩
  | .hbm, ⟨86, _⟩ => ⟨S1x20480, .f32⟩
  | .hbm, ⟨87, _⟩ => ⟨S_, .f32⟩
  | .hbm, ⟨88, _⟩ => ⟨S1x20480, .f32⟩
  | .hbm, ⟨89, _⟩ => ⟨S1x20480, .f32⟩
  | .hbm, ⟨90, _⟩ => ⟨S3000x1, .f32⟩
  | .hbm, ⟨91, _⟩ => ⟨S3000x20480, .f32⟩
  | .hbm, ⟨92, _⟩ => ⟨S3000x20480, .f32⟩
  | .hbm, ⟨93, _⟩ => ⟨S3000x20480, .f32⟩
  | .hbm, ⟨94, _⟩ => ⟨S20480, .f32⟩
  | .hbm, ⟨95, _⟩ => ⟨S_, .f32⟩
  | .hbm, ⟨96, _⟩ => ⟨S20480, .f32⟩
  | .hbm, ⟨97, _⟩ => ⟨S20480, .f32⟩
  | .hbm, ⟨98, _⟩ => ⟨S20480, .f32⟩
  | .hbm, ⟨99, _⟩ => ⟨S1x20480, .f32⟩
  | .hbm, ⟨100, _⟩ => ⟨S3000x20480, .f32⟩
  | .hbm, ⟨101, _⟩ => ⟨S3000x20480, .f32⟩
  | .hbm, ⟨102, _⟩ => ⟨S1x20480, .f32⟩
  | .hbm, ⟨103, _⟩ => ⟨S3000x20480, .f32⟩
  | .hbm, ⟨104, _⟩ => ⟨S3000x20480, .f32⟩
  | .hbm, ⟨105, _⟩ => ⟨S_, .f32⟩
  | .hbm, ⟨106, _⟩ => ⟨S3000x20480, .f32⟩
  | .hbm, ⟨107, _⟩ => ⟨S3000x20480, .f32⟩
  | .hbm, ⟨108, _⟩ => ⟨S_, .f32⟩
  | .hbm, ⟨109, _⟩ => ⟨S3000x20480, .f32⟩
  | .hbm, ⟨110, _⟩ => ⟨S3000x20480, .f32⟩
  | _, _ => ⟨S3000x4x12, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_c_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_cst : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_8 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_10 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_11 : Ref sig .tc := ⟨.hbm, 105, rfl⟩
abbrev main_v84 : Ref sig .tc := ⟨.hbm, 106, rfl⟩
abbrev main_v85 : Ref sig .tc := ⟨.hbm, 107, rfl⟩
abbrev main_cst_12 : Ref sig .tc := ⟨.hbm, 108, rfl⟩
abbrev main_v86 : Ref sig .tc := ⟨.hbm, 109, rfl⟩
abbrev main_v87 : Ref sig .tc := ⟨.hbm, 110, rfl⟩

abbrev nD : Nat := 1
abbrev τ : Topo := Topo.v7x

variable {F : FTy → Type} [FloatOps F]
-- ==== Proof.KSeg.lean ====
module

public import proofs.«01_k».proof.Proof.Gen.Kernel.Skeleton
public import proofs.«01_k».proof.Proof.Gen.Kernel.Frame
public import Idealize.ShloMosaic.Lib.Tactic

/-! The body of the kernel cut in three: the region run at the first point of every column block (`segA`: the bits and
the database rows), the region run in the first sweep (`segB`: the query codes and columns), and the rest (`segC`:
the sixteen column chunks). -/

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) :=
  Buf (Elt F) (M.view.loc (c : Thread nD τ))

/-- The memref's buffer held at `f`. -/
abbrev pt (c : Dev nD) {sp : Space} {S : Shape} {e : EltTy} (M : Memref sig .tc sp S e) (f : Bf (F := F) c M) :
    sProp 𝕄 :=
  M.view.loc (c : Thread nD τ) ↦{fullShare} f

/-- The region of the first point of a column block. -/
noncomputable def segA (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    Prog (TpuEff nD τ sig (Elt F) Λ₀ .tc) PUnit := do
  let ⟨v618, v619, v659⟩ : Σ' (v618 : IVec S12x2048 32) (v619 : IVec S16x2048 32), IVec S16x2048 32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
  let v700 : FVec F S32x2048 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v618 v619 v659
  let ⟨v743, c14_i32_491⟩ : Σ' (v743 : IVec S16x2048 32), BitVec 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v618 v619 v700
  let ⟨v768, v770, v780⟩ : Σ' (v768 : FVec F S1x2048 .f32) (v770 : FVec F S1x2048 .f32), FVec F S1x2048 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 v618 v619 v743 c14_i32_491
  let v781 : Vec F S1x2048 .f32 ← Prog.lift (.load arg16 (Rect.unit (s := S8x2048) ![2, 0] S1x2048.size inb_S8x2048_S1x2048_2_0).toLoadRect (View.loadsAt_vmem h_S1x2048))
  Prog.lift (.store arg16 (Rect.unit (s := S8x2048) ![2, 0] S1x2048.size inb_S8x2048_S1x2048_2_0) (k0_pay62 v780) Finset.univ (View.stores_vmem_bits_univ h_S1x2048 rfl) (.inl rfl))
  let v786 : Vec F S1x2048 .f32 ← Prog.lift (.load arg16 (Rect.unit (s := S8x2048) ![3, 0] S1x2048.size inb_S8x2048_S1x2048_3_0).toLoadRect (View.loadsAt_vmem h_S1x2048))
  Prog.lift (.store arg16 (Rect.unit (s := S8x2048) ![3, 0] S1x2048.size inb_S8x2048_S1x2048_3_0) (k0_pay63 v768) Finset.univ (View.stores_vmem_bits_univ h_S1x2048 rfl) (.inl rfl))
  let v801 : Vec F S1x2048 .f32 ← Prog.lift (.load arg16 (Rect.unit (s := S8x2048) ![4, 0] S1x2048.size inb_S8x2048_S1x2048_4_0).toLoadRect (View.loadsAt_vmem h_S1x2048))
  Prog.lift (.store arg16 (Rect.unit (s := S8x2048) ![4, 0] S1x2048.size inb_S8x2048_S1x2048_4_0) (k0_pay64 v768 v770) Finset.univ (View.stores_vmem_bits_univ h_S1x2048 rfl) (.inl rfl))
  pure ⟨⟩

/-- The region of the first sweep. -/
noncomputable def segB (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (arg1 : BitVec 32) (cst_2 : F .f32) (k0_h2 : k0_cond2 i = 1#1) :
    Prog (TpuEff nD τ sig (Elt F) Λ₀ .tc) PUnit := do
  let ⟨v624, v655⟩ : Σ' (v624 : IVec S32x512 32), IVec S32x512 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v666, v687, v696⟩ : Σ' (v666 : FVec F S32x512 .f32) (v687 : IVec S32x512 32), IVec S32x512 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v655
  let ⟨v708, v729, v736⟩ : Σ' (v708 : FVec F S32x512 .f32) (v729 : IVec S32x512 32), IVec S32x512 32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v687 v696
  let ⟨v750, v771, v776⟩ : Σ' (v750 : FVec F S32x512 .f32) (v771 : IVec S32x512 32), IVec S32x512 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v729 v736
  let ⟨v811, v814⟩ : Σ' (v811 : IVec S32x512 32), IVec S1x512 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v624 v666 v708 v750 v771 v776
  let ⟨v842, v853⟩ : Σ' (v842 : FVec F S32x512 .f32), IVec S32x512 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v811 v814
  let ⟨v884, v895⟩ : Σ' (v884 : FVec F S32x512 .f32), IVec S32x512 32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v853
  let ⟨v926, v927, v934, c0_i32_610⟩ : Σ' (v926 : FVec F S32x512 .f32) (v927 : IVec S32x512 32) (v934 : IVec S32x512 32), BitVec 32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v895
  let v971 : FVec F S512x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v624 v842 v884 v926 v927 v934 c0_i32_610
  let ⟨v1007, v1012, v1013⟩ : Σ' (v1007 : IVec S32x512 32) (v1012 : IVec S32x512 32), IVec S32x512 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v624 v971
  let ⟨v1018, v1049, v1053⟩ : Σ' (v1018 : FVec F S32x512 .f32) (v1049 : IVec S32x512 32), IVec S32x512 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v1007 v1012 v1013
  let ⟨v1060, v1091, v1092⟩ : Σ' (v1060 : FVec F S32x512 .f32) (v1091 : IVec S32x512 32), Vec F S1x1x512 .i32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v1049 v1053
  let ⟨v1102, v1133⟩ : Σ' (v1102 : FVec F S32x512 .f32), IVec S32x512 32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v1091 v1092
  let ⟨v1156, v1158, v1160, v1172⟩ : Σ' (v1156 : FVec F S1x512 .f32) (v1158 : FVec F S1x512 .f32) (v1160 : FVec F S1x512 .f32), FVec F S1x512 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 cst_2 k0_h2 v624 v1018 v1060 v1102 v1133
  let v1176 : Vec F S1x1x512x128 .f32 ← Prog.lift (.load arg14 (Rect.unit (s := S6x4x512x128) (k0_off6 i) S1x1x512x128.size (k0_off6_inb i k0_h2)).toLoadRect (View.loadsAt_vmem h_S1x1x512x128))
  Prog.lift (.store arg14 (Rect.unit (s := S6x4x512x128) (k0_off6 i) S1x1x512x128.size (k0_off6_inb i k0_h2)) (k0_pay65 v1172) Finset.univ (View.stores_vmem_bits_univ h_S1x1x512x128 rfl) (.inl rfl))
  let v1179 : Vec F S1x512 .f32 ← Prog.lift (.load arg6 (Rect.unit (s := S1x512) ![0, 0] S1x512.size inb_S1x512_S1x512_0_0).toLoadRect (View.loadsAt_vmem h_S1x512))
  let v1189 : Vec F S1x1x512x128 .f32 ← Prog.lift (.load arg14 (Rect.unit (s := S6x4x512x128) (k0_off7 i) S1x1x512x128.size (k0_off7_inb i k0_h2)).toLoadRect (View.loadsAt_vmem h_S1x1x512x128))
  Prog.lift (.store arg14 (Rect.unit (s := S6x4x512x128) (k0_off7 i) S1x1x512x128.size (k0_off7_inb i k0_h2)) (k0_pay66 v1156 v1158 v1179) Finset.univ (View.stores_vmem_bits_univ h_S1x1x512x128 rfl) (.inl rfl))
  let v1196 : Vec F S1x1x512x128 .f32 ← Prog.lift (.load arg14 (Rect.unit (s := S6x4x512x128) (k0_off8 i) S1x1x512x128.size (k0_off8_inb i k0_h2)).toLoadRect (View.loadsAt_vmem h_S1x1x512x128))
  Prog.lift (.store arg14 (Rect.unit (s := S6x4x512x128) (k0_off8 i) S1x1x512x128.size (k0_off8_inb i k0_h2)) (k0_pay67 v1160) Finset.univ (View.stores_vmem_bits_univ h_S1x1x512x128 rfl) (.inl rfl))
  pure ⟨⟩

/-- What the body reads before its first chunk is stored. -/
noncomputable def segC0 (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (arg1 : BitVec 32) :
    Prog (TpuEff nD τ sig (Elt F) Λ₀ .tc) (Σ' (arg1 : BitVec 32) (v8 : FVec F S512x384 .bf16) (v10 : FVec F S512x256 .f32) (v13 : FVec F S512x128 .f32), FVec F S512x128 .f32) := do
  let v7 : Vec F S1x512x384 .bf16 ← Prog.lift (.load arg13 (Rect.unit (s := S6x512x384) (k0_off9 i) S1x512x384.size (k0_off9_inb i)).toLoadRect (View.loadsAt_vmem h_S1x512x384))
  let v9 : Vec F S384x256 .bf16 ← Prog.lift (.load arg15 (Rect.unit (s := S384x2048) ![0, 0] S384x256.size inb_S384x2048_S384x256_0_0).toLoadRect (View.loadsAt_vmem h_S384x256))
  let v12 : Vec F S1x1x512x128 .f32 ← Prog.lift (.load arg14 (Rect.unit (s := S6x4x512x128) (k0_off10 i) S1x1x512x128.size (k0_off10_inb i)).toLoadRect (View.loadsAt_vmem h_S1x1x512x128))
  let v16 : Vec F S1x1x512x128 .f32 ← Prog.lift (.load arg14 (Rect.unit (s := S6x4x512x128) (k0_off11 i) S1x1x512x128.size (k0_off11_inb i)).toLoadRect (View.loadsAt_vmem h_S1x1x512x128))
  let v20 : Vec F S1x1x512x128 .f32 ← Prog.lift (.load arg14 (Rect.unit (s := S6x4x512x128) (k0_off12 i) S1x1x512x128.size (k0_off12_inb i)).toLoadRect (View.loadsAt_vmem h_S1x1x512x128))
  let v22 : Vec F S1x128 .f32 ← Prog.lift (.load arg16 (Rect.unit (s := S8x2048) ![0, 0] S1x128.size inb_S8x2048_S1x128_0_0).toLoadRect (View.loadsAt_vmem h_S1x128))
  let v27 : Vec F S1x1x512x128 .f32 ← Prog.lift (.load arg14 (Rect.unit (s := S6x4x512x128) (k0_off13 i) S1x1x512x128.size (k0_off13_inb i)).toLoadRect (View.loadsAt_vmem h_S1x1x512x128))
  pure ⟨arg1, k0_pay68 v7, k0_pay69 v7 v9, k0_pay70 v12, k0_pay71 v7 v9 v16 v20 v22 v27⟩

/-- The second region, where it runs, and then the first reads of the chunks. -/
noncomputable def segBC (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    Prog (TpuEff nD τ sig (Elt F) Λ₀ .tc) (Σ' (arg1 : BitVec 32) (v8 : FVec F S512x384 .bf16) (v10 : FVec F S512x256 .f32) (v13 : FVec F S512x128 .f32), FVec F S512x128 .f32) := do
  if k0_h2 : k0_cond2 i = 1#1 then do
    segB i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Scalar.ofBits .f32 0x419CC471#32) k0_h2
    segC0 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val)
  else segC0 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val)

/-- The grid's second coordinate is zero: the first point of a column block. -/
abbrev condA (i : grid0.Coords) : Prop :=
  Scalar.cmpi .ne (Scalar.extui (Scalar.cmpi .eq (BitVec.ofNat 32 (i 1).val) 0#32) : BitVec 32) 0#32 = 1#1

/-- The first part holding both regions is the three segments in order. -/
theorem part19_eq (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      if _h : condA i then do
        segA i arg2 harg2 arg3 harg3 arg4 harg4 arg5 harg5 arg6 harg6 arg7 harg7 arg8 harg8 arg9 harg9 arg10 harg10 arg11 harg11 arg12 harg12 arg13 harg13 arg14 harg14 arg15 harg15 arg16 harg16
        segBC i arg2 harg2 arg3 harg3 arg4 harg4 arg5 harg5 arg6 harg6 arg7 harg7 arg8 harg8 arg9 harg9 arg10 harg10 arg11 harg11 arg12 harg12 arg13 harg13 arg14 harg14 arg15 harg15 arg16 harg16
      else segBC i arg2 harg2 arg3 harg3 arg4 harg4 arg5 harg5 arg6 harg6 arg7 harg7 arg8 harg8 arg9 harg9 arg10 harg10 arg11 harg11 arg12 harg12 arg13 harg13 arg14 harg14 arg15 harg15 arg16 harg16 := rfl

end Cert.Proof.Kernel
-- ==== Proof.KRunA.lean ====
module

public import proofs.«01_k».proof.Proof.KSeg
public import proofs.«01_k».proof.Proof.Gen.Kernel.Frame

/-! The region run at the first point of a column block. -/

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run: what it leaves in the buffers it writes, as a function of what it found. -/
noncomputable def runA (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f7 : Bf (F := F) c arg7) (f8 : Bf (F := F) c arg8) (f9 : Bf (F := F) c arg9) (f15 : Bf (F := F) c arg15) (f16 : Bf (F := F) c arg16) :
    { W : Bf (F := F) c arg15 × Bf (F := F) c arg16 // ∀ (E : Set ℕ) (Q : PUnit → sProp 𝕄),
      iprop(pt c arg7 f7 ∗ pt c arg8 f8 ∗ pt c arg9 f9 ∗ pt c arg15 f15 ∗ pt c arg16 f16 ∗ (iprop(pt c arg7 f7 ∗ pt c arg8 f8 ∗ pt c arg9 f9 ∗ pt c arg15 W.1 ∗ pt c arg16 W.2) -∗ Q ⟨⟩))
      ⊢ wp frame (wpE (defs₀ (F := F)) Variants.none c none) E (segA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_⟩, fun E Q => ?run⟩
  case run =>
    unfold segA
    iintro ⟨H7, H8, H9, H15, H16, Hk⟩
    sl_exec_parts!
    sl_step
    iapply Hk
    isplitl [H7]; · iexact H7
    isplitl [H8]; · iexact H8
    isplitl [H9]; · iexact H9
    isplitl [H15]; · iexact H15
    iexact H16

end Cert.Proof.Kernel
-- ==== Proof.KRunB.lean ====
module

public import proofs.«01_k».proof.Proof.KSeg
public import proofs.«01_k».proof.Proof.Gen.Kernel.Frame

/-! The region run in the first sweep. -/

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run: what it leaves in the buffers it writes, as a function of what it found. -/
noncomputable def runB (c : Dev nD) (i : grid0.Coords) (h2 : k0_cond2 i = 1#1) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := F) c arg2) (f3 : Bf (F := F) c arg3) (f4 : Bf (F := F) c arg4) (f5 : Bf (F := F) c arg5) (f6 : Bf (F := F) c arg6) (f13 : Bf (F := F) c arg13) (f14 : Bf (F := F) c arg14) :
    { W : Bf (F := F) c arg13 × Bf (F := F) c arg14 // ∀ (E : Set ℕ) (Q : PUnit → sProp 𝕄),
      iprop(pt c arg2 f2 ∗ pt c arg3 f3 ∗ pt c arg4 f4 ∗ pt c arg5 f5 ∗ pt c arg6 f6 ∗ pt c arg13 f13 ∗ pt c arg14 f14 ∗ (iprop(pt c arg2 f2 ∗ pt c arg3 f3 ∗ pt c arg4 f4 ∗ pt c arg5 f5 ∗ pt c arg6 f6 ∗ pt c arg13 W.1 ∗ pt c arg14 W.2) -∗ Q ⟨⟩))
      ⊢ wp frame (wpE (defs₀ (F := F)) Variants.none c none) E (segB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Scalar.ofBits .f32 0x419CC471#32) h2) Q } := by
  refine ⟨⟨?_, ?_⟩, fun E Q => ?run⟩
  case run =>
    unfold segB
    iintro ⟨H2, H3, H4, H5, H6, H13, H14, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H13]; · iexact H13
    iexact H14

end Cert.Proof.Kernel
-- ==== Proof.KRunC.lean ====
module

public import proofs.«01_k».proof.Proof.KSeg
public import proofs.«01_k».proof.Proof.Gen.Kernel.Frame

/-! The sixteen column chunks of a point. -/

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body does after the first reads of its chunks. -/
noncomputable def restC (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (r : (Σ' (arg1 : BitVec 32) (v8 : FVec F S512x384 .bf16) (v10 : FVec F S512x256 .f32) (v13 : FVec F S512x128 .f32), FVec F S512x128 .f32)) :
    Prog (TpuEff nD τ sig (Elt F) Λ₀ .tc) PUnit := do
  let ⟨arg1, v8, v10, v13, v29⟩ := r
  let ⟨v50, v62⟩ : Σ' (v50 : FVec F S512x128 .f32), FVec F S512x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v10 v13 v29
  let ⟨v86, v89, v90, v93⟩ : Σ' (v86 : FVec F S512x256 .f32) (v89 : FVec F S512x128 .f32) (v90 : FVec F S512x128 .f32), FVec F S512x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v50 v62
  let v125 : Vec F S1x1x512x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v89 v90 v93
  let v159 : FVec F S512x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v86 v125
  let ⟨v162, v165, v184, v189, v191⟩ : Σ' (v162 : FVec F S512x256 .f32) (v165 : FVec F S512x128 .f32) (v184 : FVec F S512x128 .f32) (v189 : FVec F S512x128 .f32), FVec F S512x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v159
  let ⟨v202, v221⟩ : Σ' (v202 : FVec F S512x128 .f32), FVec F S512x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v162 v165 v184 v189 v191
  let ⟨v238, v241, v253, v255⟩ : Σ' (v238 : FVec F S512x256 .f32) (v241 : FVec F S512x128 .f32) (v253 : FVec F S512x128 .f32), Vec F S1x1x512x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v202 v221
  let ⟨v278, v283, v286, v287⟩ : Σ' (v278 : FVec F S512x128 .f32) (v283 : FVec F S512x128 .f32) (v286 : FVec F S512x128 .f32), Vec F S1x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v238 v241 v253 v255
  let ⟨v314, v317, v318⟩ : Σ' (v314 : FVec F S512x256 .f32) (v317 : FVec F S512x128 .f32), FVec F S512x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v278 v283 v286 v287
  k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v317 v318
  let ⟨v354, v385⟩ : Σ' (v354 : FVec F S512x128 .f32), Vec F S1x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v314
  let ⟨v390, v393, v412, v417⟩ : Σ' (v390 : FVec F S512x256 .f32) (v393 : FVec F S512x128 .f32) (v412 : FVec F S512x128 .f32), FVec F S512x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v354 v385
  let ⟨v430, v449⟩ : Σ' (v430 : FVec F S512x128 .f32), FVec F S512x128 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v390 v393 v412 v417
  let ⟨v466, v469, v481⟩ : Σ' (v466 : FVec F S512x256 .f32) (v469 : FVec F S512x128 .f32), FVec F S512x128 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v430 v449
  let ⟨v506, v511, v514⟩ : Σ' (v506 : FVec F S512x128 .f32) (v511 : FVec F S512x128 .f32), FVec F S512x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v466 v469 v481
  let ⟨v542, v545, v546⟩ : Σ' (v542 : FVec F S512x256 .f32) (v545 : FVec F S512x128 .f32), FVec F S512x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v506 v511 v514
  let v578 : FVec F S512x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v545 v546
  let v582 : FVec F S512x128 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v542 v578
  let v613 : Vec F S1x128 .f32 ← Prog.lift (.load arg16 (Rect.unit (s := S8x2048) ![4, 1920] S1x128.size inb_S8x2048_S1x128_4_1920).toLoadRect (View.loadsAt_vmem h_S1x128))
  let v616 : Vec F S512x128 .f32 ← Prog.lift (.load arg11 (Rect.unit (s := S512x2048) ![0, 1920] S512x128.size inb_S512x2048_S512x128_0_1920).toLoadRect (View.loadsAt_vmem h_S512x128))
  Prog.lift (.store arg11 (Rect.unit (s := S512x2048) ![0, 1920] S512x128.size inb_S512x2048_S512x128_0_1920) (k0_pay1 v582 v613) Finset.univ (View.stores_vmem_bits_univ h_S512x128 rfl) (.inl rfl))
  pure ⟨⟩

/-- The sixteen column chunks. -/
noncomputable def segC (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    Prog (TpuEff nD τ sig (Elt F) Λ₀ .tc) PUnit :=
  segC0 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) >>= restC i arg2 harg2 arg3 harg3 arg4 harg4 arg5 harg5 arg6 harg6 arg7 harg7 arg8 harg8 arg9 harg9 arg10 harg10 arg11 harg11 arg12 harg12 arg13 harg13 arg14 harg14 arg15 harg15 arg16 harg16

/-- The body is the first part and then the rest of the chunks. -/
theorem cc0_rabitq_eq (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    cc0_rabitq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 >>= restC i arg2 harg2 arg3 harg3 arg4 harg4 arg5 harg5 arg6 harg6 arg7 harg7 arg8 harg8 arg9 harg9 arg10 harg10 arg11 harg11 arg12 harg12 arg13 harg13 arg14 harg14 arg15 harg15 arg16 harg16 := by
  rw [cc0_rabitq_eq_skeleton]
  rfl

/-- The run: what it leaves in the buffers it writes, as a function of what it found. -/
noncomputable def runC (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f13 : Bf (F := F) c arg13) (f14 : Bf (F := F) c arg14) (f15 : Bf (F := F) c arg15) (f16 : Bf (F := F) c arg16) (f10 : Bf (F := F) c arg10) (f11 : Bf (F := F) c arg11) (f12 : Bf (F := F) c arg12) :
    { W : Bf (F := F) c arg10 × Bf (F := F) c arg11 × Bf (F := F) c arg12 // ∀ (E : Set ℕ) (Q : PUnit → sProp 𝕄),
      iprop(pt c arg13 f13 ∗ pt c arg14 f14 ∗ pt c arg15 f15 ∗ pt c arg16 f16 ∗ pt c arg10 f10 ∗ pt c arg11 f11 ∗ pt c arg12 f12 ∗ (iprop(pt c arg13 f13 ∗ pt c arg14 f14 ∗ pt c arg15 f15 ∗ pt c arg16 f16 ∗ pt c arg10 W.1 ∗ pt c arg11 W.2.1 ∗ pt c arg12 W.2.2) -∗ Q ⟨⟩))
      ⊢ wp frame (wpE (defs₀ (F := F)) Variants.none c none) E (segC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_⟩, fun E Q => ?run⟩
  case run =>
    unfold segC segC0 restC
    iintro ⟨H13, H14, H15, H16, H10, H11, H12, Hk⟩
    sl_exec_parts!
    sl_step
    iapply Hk
    isplitl [H13]; · iexact H13
    isplitl [H14]; · iexact H14
    isplitl [H15]; · iexact H15
    isplitl [H16]; · iexact H16
    isplitl [H10]; · iexact H10
    isplitl [H11]; · iexact H11
    iexact H12

end Cert.Proof.Kernel
-- ==== Proof.KBody.lean ====
module

public import proofs.«01_k».proof.Proof.KRunA
public import proofs.«01_k».proof.Proof.KRunB
public import proofs.«01_k».proof.Proof.KRunC

/-! The whole body at a point: what it leaves in every buffer. -/

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Whole

variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)

/-- The bits' buffer and the database rows' buffer after the first region. -/
noncomputable def left15 : Bf (F := F) c arg15 :=
  if condA i then (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.1 else f15
noncomputable def left16 : Bf (F := F) c arg16 :=
  if condA i then (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.2 else f16

/-- The query codes' buffer and the query columns' buffer after the second region. -/
noncomputable def left13 : Bf (F := F) c arg13 :=
  if h2 : k0_cond2 i = 1#1 then (runB c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.1 else f13
noncomputable def left14 : Bf (F := F) c arg14 :=
  if h2 : k0_cond2 i = 1#1 then (runB c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.2 else f14

/-- The three results' buffers after the chunks. -/
noncomputable def leftC : Bf (F := F) c arg10 × Bf (F := F) c arg11 × Bf (F := F) c arg12 :=
  (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) f10 f11 f12).1

/-- The body's triple. -/
theorem body_wp (E : Set ℕ) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 ∗ pt c arg11 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1 ∗ pt c arg12 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2 ∗ pt c arg13 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg14 (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg15 (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) ∗ pt c arg16 (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) -∗ Q ⟨⟩))
      ⊢ wp frame (wpE (defs₀ (F := F)) Variants.none c none) E (cc0_rabitq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  have hC : ∀ (g13 : Bf (F := F) c arg13) (g14 : Bf (F := F) c arg14) (g15 : Bf (F := F) c arg15) (g16 : Bf (F := F) c arg16),
      left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14 = g13 → left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14 = g14 → left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g15 → left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g16 →
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 g13 ∗ pt c arg14 g14 ∗ pt c arg15 g15 ∗ pt c arg16 g16 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 ∗ pt c arg11 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1 ∗ pt c arg12 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2 ∗ pt c arg13 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg14 (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg15 (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) ∗ pt c arg16 (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) -∗ Q ⟨⟩))
      ⊢ wp frame (wpE (defs₀ (F := F)) Variants.none c none) E (segC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    rintro g13 g14 g15 g16 rfl rfl rfl rfl
    iintro ⟨H2, H3, H4, H5, H6, H7, H8, H9, H10, H11, H12, H13, H14, H15, H16, Hk⟩
    iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) f10 f11 f12).2 E Q)
    isplitl [H13]; · iexact H13
    isplitl [H14]; · iexact H14
    isplitl [H15]; · iexact H15
    isplitl [H16]; · iexact H16
    isplitl [H10]; · iexact H10
    isplitl [H11]; · iexact H11
    isplitl [H12]; · iexact H12
    iintro ⟨H13, H14, H15, H16, H10, H11, H12⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  have hB : ∀ (g15 : Bf (F := F) c arg15) (g16 : Bf (F := F) c arg16),
      left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g15 → left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g16 →
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 g15 ∗ pt c arg16 g16 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 ∗ pt c arg11 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1 ∗ pt c arg12 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2 ∗ pt c arg13 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg14 (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg15 (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) ∗ pt c arg16 (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) -∗ Q ⟨⟩))
      ⊢ wp frame (wpE (defs₀ (F := F)) Variants.none c none) E (segBC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun r => wp frame (wpE (defs₀ (F := F)) Variants.none c none) E (restC i arg2 harg2 arg3 harg3 arg4 harg4 arg5 harg5 arg6 harg6 arg7 harg7 arg8 harg8 arg9 harg9 arg10 harg10 arg11 harg11 arg12 harg12 arg13 harg13 arg14 harg14 arg15 harg15 arg16 harg16 r) Q) := by
    intro g15 g16 e15 e16
    have hC' := hC
    unfold segC at hC'
    simp only [wp_bind] at hC'
    unfold segBC
    by_cases h2 : k0_cond2 i = 1#1
    · rw [dif_pos h2, wp_bind]
      iintro ⟨H2, H3, H4, H5, H6, H7, H8, H9, H10, H11, H12, H13, H14, H15, H16, Hk⟩
      iapply ((runB c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).2 E _)
      isplitl [H2]; · iexact H2
      isplitl [H3]; · iexact H3
      isplitl [H4]; · iexact H4
      isplitl [H5]; · iexact H5
      isplitl [H6]; · iexact H6
      isplitl [H13]; · iexact H13
      isplitl [H14]; · iexact H14
      iintro ⟨H2, H3, H4, H5, H6, H13, H14⟩
      iapply (hC' _ _ g15 g16 (by unfold left13; rw [dif_pos h2]) (by unfold left14; rw [dif_pos h2]) e15 e16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact Hk
    · rw [dif_neg h2]
      exact hC' _ _ g15 g16 (by unfold left13; rw [dif_neg h2]) (by unfold left14; rw [dif_neg h2]) e15 e16
  rw [cc0_rabitq_eq]
  simp only [wp_bind]
  rw [part19_eq]
  by_cases h1 : condA i
  · rw [dif_pos h1, wp_bind]
    iintro ⟨H2, H3, H4, H5, H6, H7, H8, H9, H10, H11, H12, H13, H14, H15, H16, Hk⟩
    iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).2 E _)
    isplitl [H7]; · iexact H7
    isplitl [H8]; · iexact H8
    isplitl [H9]; · iexact H9
    isplitl [H15]; · iexact H15
    isplitl [H16]; · iexact H16
    iintro ⟨H7, H8, H9, H15, H16⟩
    iapply (hB _ _ (by unfold left15; rw [if_pos h1]) (by unfold left16; rw [if_pos h1]))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact Hk
  · rw [dif_neg h1]
    exact hB _ _ (by unfold left15; rw [if_neg h1]) (by unfold left16; rw [if_neg h1])

end Whole

end Cert.Proof.Kernel
-- ==== Proof.KFrameOnly.lean ====
module

public import proofs.«01_k».proof.Proof.KBody

/-! The frame: the kernel runs to its end and leaves its argument arrays as they were, nothing said of the results. -/

@[expose] public section

set_option maxRecDepth 16384

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at contents `X` is its buffer held at contents that read as `X`. -/
theorem owns_isWhole_eq (c : Dev nD) {sp : Space} {S : Shape} {e : EltTy} {M : Memref sig .tc sp S e} (h : M.IsWhole)
    (q : PosShare TreeShare) (X : S.Idx → Elt F e) :
    (owns (c : Thread nD τ) M q X : sProp 𝕄)
      = iprop(∃ f : Bf (F := F) c M, ⌜M.view.read (Elt F) f = X⌝ ∗ (M.view.loc (c : Thread nD τ) ↦{q} f)) := by
  obtain ⟨b, hsp, hsh, he, h⟩ := h
  subst hsp hsh he
  cases h
  unfold owns
  simp only [Memref.view_whole, View.set_whole]

/-- A whole memref's buffer held at some contents is it owned at some contents. -/
theorem owns_exists (c : Dev nD) {sp : Space} {S : Shape} {e : EltTy} {M : Memref sig .tc sp S e} (h : M.IsWhole)
    (f : Bf (F := F) c M) : (pt c M f) ⊢ (iprop(∃ X, owns (c : Thread nD τ) M fullShare X) : sProp 𝕄) := by
  iintro H
  iexists (M.view.read (Elt F) f)
  rw [owns_isWhole_eq c h]
  iexists f
  isplitr
  · ipureintro; rfl
  · iexact H

/-- The proof data that name nothing the body leaves. -/
def fdats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem fbody (c : Dev nD) :
    BodyObligationLoose (fdats m 0 c) (defs₀ (F := F)) Variants.none () Set.univ (fun _ => true) := by
  intro t
  rw [bigSep_W0]
  dsimp only
  rw [show (fdats m 0 c).Φ t.castSucc = Pipeline.ΦA spec0 c from rfl, show (fdats m 0 c).Φ t.succ = Pipeline.ΦA spec0 c from rfl,
    show (fdats m 0 c).owesAt () t.succ = (fdats m 0 c).owesAt () t.castSucc from rfl]
  unfold Pipeline.ΦA
  rw [scopedRest0_eq]
  iintro ⟨⟨⟨⟨%g13, H13⟩, ⟨%g14, H14⟩, ⟨%g15, H15⟩, ⟨%g16, H16⟩⟩, Hr⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩⟩
  ihave H2 := (Entails.of_eq (owns_isWhole_eq (M := stage0_0 (cfg0.slots t 0)) c (hstage0_0 ((cfg0.slots t 0).cast nbuf0_0)) fullShare X2)) $$ H2
  icases H2 with ⟨%f2, -, H2⟩
  ihave H3 := (Entails.of_eq (owns_isWhole_eq (M := stage0_1 (cfg0.slots t 1)) c (hstage0_1 ((cfg0.slots t 1).cast nbuf0_1)) fullShare X3)) $$ H3
  icases H3 with ⟨%f3, -, H3⟩
  ihave H4 := (Entails.of_eq (owns_isWhole_eq (M := stage0_2 (cfg0.slots t 2)) c (hstage0_2 ((cfg0.slots t 2).cast nbuf0_2)) fullShare X4)) $$ H4
  icases H4 with ⟨%f4, -, H4⟩
  ihave H5 := (Entails.of_eq (owns_isWhole_eq (M := stage0_3 (cfg0.slots t 3)) c (hstage0_3 ((cfg0.slots t 3).cast nbuf0_3)) fullShare X5)) $$ H5
  icases H5 with ⟨%f5, -, H5⟩
  ihave H6 := (Entails.of_eq (owns_isWhole_eq (M := stage0_4 (cfg0.slots t 4)) c (hstage0_4 ((cfg0.slots t 4).cast nbuf0_4)) fullShare X6)) $$ H6
  icases H6 with ⟨%f6, -, H6⟩
  ihave H7 := (Entails.of_eq (owns_isWhole_eq (M := stage0_5 (cfg0.slots t 5)) c (hstage0_5 ((cfg0.slots t 5).cast nbuf0_5)) fullShare X7)) $$ H7
  icases H7 with ⟨%f7, -, H7⟩
  ihave H8 := (Entails.of_eq (owns_isWhole_eq (M := stage0_6 (cfg0.slots t 6)) c (hstage0_6 ((cfg0.slots t 6).cast nbuf0_6)) fullShare X8)) $$ H8
  icases H8 with ⟨%f8, -, H8⟩
  ihave H9 := (Entails.of_eq (owns_isWhole_eq (M := stage0_7 (cfg0.slots t 7)) c (hstage0_7 ((cfg0.slots t 7).cast nbuf0_7)) fullShare X9)) $$ H9
  icases H9 with ⟨%f9, -, H9⟩
  ihave H10 := (Entails.of_eq (owns_isWhole_eq (M := stage0_8 (cfg0.slots t 8)) c (hstage0_8 ((cfg0.slots t 8).cast nbuf0_8)) fullShare X10)) $$ H10
  icases H10 with ⟨%f10, -, H10⟩
  ihave H11 := (Entails.of_eq (owns_isWhole_eq (M := stage0_9 (cfg0.slots t 9)) c (hstage0_9 ((cfg0.slots t 9).cast nbuf0_9)) fullShare X11)) $$ H11
  icases H11 with ⟨%f11, -, H11⟩
  ihave H12 := (Entails.of_eq (owns_isWhole_eq (M := stage0_10 (cfg0.slots t 10)) c (hstage0_10 ((cfg0.slots t 10).cast nbuf0_10)) fullShare X12)) $$ H12
  icases H12 with ⟨%f12, -, H12⟩
  iapply (body_wp c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 g13 g14 g15 g16 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  isplitl [H13 H14 H15 H16 Hr]
  · isplitl [H13 H14 H15 H16]
    · isplitl [H13]; · iexists _; iexact H13
      isplitl [H14]; · iexists _; iexact H14
      isplitl [H15]; · iexists _; iexact H15
      iexists _; iexact H16
    · iexact Hr
  isplitl [Ho]; · iexact Ho
  isplitl [H2]; · iapply (owns_exists (M := stage0_0 (cfg0.slots t 0)) c (hstage0_0 ((cfg0.slots t 0).cast nbuf0_0)) _) $$ H2
  isplitl [H3]; · iapply (owns_exists (M := stage0_1 (cfg0.slots t 1)) c (hstage0_1 ((cfg0.slots t 1).cast nbuf0_1)) _) $$ H3
  isplitl [H4]; · iapply (owns_exists (M := stage0_2 (cfg0.slots t 2)) c (hstage0_2 ((cfg0.slots t 2).cast nbuf0_2)) _) $$ H4
  isplitl [H5]; · iapply (owns_exists (M := stage0_3 (cfg0.slots t 3)) c (hstage0_3 ((cfg0.slots t 3).cast nbuf0_3)) _) $$ H5
  isplitl [H6]; · iapply (owns_exists (M := stage0_4 (cfg0.slots t 4)) c (hstage0_4 ((cfg0.slots t 4).cast nbuf0_4)) _) $$ H6
  isplitl [H7]; · iapply (owns_exists (M := stage0_5 (cfg0.slots t 5)) c (hstage0_5 ((cfg0.slots t 5).cast nbuf0_5)) _) $$ H7
  isplitl [H8]; · iapply (owns_exists (M := stage0_6 (cfg0.slots t 6)) c (hstage0_6 ((cfg0.slots t 6).cast nbuf0_6)) _) $$ H8
  isplitl [H9]; · iapply (owns_exists (M := stage0_7 (cfg0.slots t 7)) c (hstage0_7 ((cfg0.slots t 7).cast nbuf0_7)) _) $$ H9
  isplitl [H10]; · iapply (owns_exists (M := stage0_8 (cfg0.slots t 8)) c (hstage0_8 ((cfg0.slots t 8).cast nbuf0_8)) _) $$ H10
  isplitl [H11]; · iapply (owns_exists (M := stage0_9 (cfg0.slots t 9)) c (hstage0_9 ((cfg0.slots t 9).cast nbuf0_9)) _) $$ H11
  iapply (owns_exists (M := stage0_10 (cfg0.slots t 10)) c (hstage0_10 ((cfg0.slots t 10).cast nbuf0_10)) _) $$ H12

/-- The kernel's frame, and every counter at rest. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have h := Pipeline.θ_run_frame_forget cfgs (fdats m) 0 launch0 (defs₀ (F := F)) Variants.none (fun _ => true) m ρ (main (F := F))
    (fbody m) (fun c w => by fin_cases w <;> rfl) (fun c t => rfl) (V m) (hmain m Variants.none) (fun c w => rfl) (fun c t => rfl)
    (fun r => Pipeline.RDat.FramePost cfg0 (fun c => (fdats m 0 c).toRForget (fun _ => true)) (V m) r ∧ r.2.sem = fun _ => 0)
    (fun _ h => h)
  refine (θ_run defs _ _).mono (fun r h => ⟨fun c => ?_, h.2⟩) h
  exact ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩

end Cert.Proof.Kernel
-- ==== Proof.Seg.lean ====
module

public import proofs.«01_k».proof.Proof.Gen.KernelIdeal.Skeleton
public import proofs.«01_k».proof.Proof.Gen.KernelIdeal.Frame
public import Idealize.ShloMosaic.Lib.Tactic

/-! The body of the kernel cut in three: the region run at the first point of every column block (`segA`: the bits and
the database rows), the region run in the first sweep (`segB`: the query codes and columns), and the rest (`segC`:
the sixteen column chunks). -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of a memref's buffer on core `c`. -/
abbrev Bf (c : Dev nD) {sp : Space} {S : Shape} {e : EltTy} (M : Memref sig .tc sp S e) :=
  Buf (Elt F) (M.view.loc (c : Thread nD τ))

/-- The memref's buffer held at `f`. -/
abbrev pt (c : Dev nD) {sp : Space} {S : Shape} {e : EltTy} (M : Memref sig .tc sp S e) (f : Bf (F := F) c M) :
    sProp 𝕄 :=
  M.view.loc (c : Thread nD τ) ↦{fullShare} f

/-- The region of the first point of a column block. -/
noncomputable def segA (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    Prog (TpuEff nD τ sig (Elt F) Λ₀ .tc) PUnit := do
  let ⟨v618, v619, v659⟩ : Σ' (v618 : IVec S12x2048 32) (v619 : IVec S16x2048 32), IVec S16x2048 32 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16
  let v700 : FVec F S32x2048 .bf16 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 v618 v619 v659
  let ⟨v743, c14_i32_491⟩ : Σ' (v743 : IVec S16x2048 32), BitVec 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 v618 v619 v700
  let ⟨v768, v770, v780⟩ : Σ' (v768 : FVec F S1x2048 .f32) (v770 : FVec F S1x2048 .f32), FVec F S1x2048 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 v618 v619 v743 c14_i32_491
  let v781 : Vec F S1x2048 .f32 ← Prog.lift (.load arg16 (Rect.unit (s := S8x2048) ![2, 0] S1x2048.size inb_S8x2048_S1x2048_2_0).toLoadRect (View.loadsAt_vmem h_S1x2048))
  Prog.lift (.store arg16 (Rect.unit (s := S8x2048) ![2, 0] S1x2048.size inb_S8x2048_S1x2048_2_0) (k0_pay62 v780) Finset.univ (View.stores_vmem_bits_univ h_S1x2048 rfl) (.inl rfl))
  let v786 : Vec F S1x2048 .f32 ← Prog.lift (.load arg16 (Rect.unit (s := S8x2048) ![3, 0] S1x2048.size inb_S8x2048_S1x2048_3_0).toLoadRect (View.loadsAt_vmem h_S1x2048))
  Prog.lift (.store arg16 (Rect.unit (s := S8x2048) ![3, 0] S1x2048.size inb_S8x2048_S1x2048_3_0) (k0_pay63 v768) Finset.univ (View.stores_vmem_bits_univ h_S1x2048 rfl) (.inl rfl))
  let v801 : Vec F S1x2048 .f32 ← Prog.lift (.load arg16 (Rect.unit (s := S8x2048) ![4, 0] S1x2048.size inb_S8x2048_S1x2048_4_0).toLoadRect (View.loadsAt_vmem h_S1x2048))
  Prog.lift (.store arg16 (Rect.unit (s := S8x2048) ![4, 0] S1x2048.size inb_S8x2048_S1x2048_4_0) (k0_pay64 v768 v770) Finset.univ (View.stores_vmem_bits_univ h_S1x2048 rfl) (.inl rfl))
  pure ⟨⟩

/-- The region of the first sweep. -/
noncomputable def segB (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (arg1 : BitVec 32) (cst_2 : F .f32) (k0_h2 : k0_cond2 i = 1#1) :
    Prog (TpuEff nD τ sig (Elt F) Λ₀ .tc) PUnit := do
  let ⟨v624, v655⟩ : Σ' (v624 : IVec S32x512 32), IVec S32x512 32 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16
  let ⟨v666, v687, v696⟩ : Σ' (v666 : FVec F S32x512 .f32) (v687 : IVec S32x512 32), IVec S32x512 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v655
  let ⟨v708, v729, v736⟩ : Σ' (v708 : FVec F S32x512 .f32) (v729 : IVec S32x512 32), IVec S32x512 32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v687 v696
  let ⟨v750, v771, v776⟩ : Σ' (v750 : FVec F S32x512 .f32) (v771 : IVec S32x512 32), IVec S32x512 32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v729 v736
  let ⟨v811, v814⟩ : Σ' (v811 : IVec S32x512 32), IVec S1x512 32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v624 v666 v708 v750 v771 v776
  let ⟨v842, v853⟩ : Σ' (v842 : FVec F S32x512 .f32), IVec S32x512 32 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v811 v814
  let ⟨v884, v895⟩ : Σ' (v884 : FVec F S32x512 .f32), IVec S32x512 32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v853
  let ⟨v926, v927, v934, c0_i32_610⟩ : Σ' (v926 : FVec F S32x512 .f32) (v927 : IVec S32x512 32) (v934 : IVec S32x512 32), BitVec 32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v895
  let v971 : FVec F S512x128 .bf16 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v624 v842 v884 v926 v927 v934 c0_i32_610
  let ⟨v1007, v1012, v1013⟩ : Σ' (v1007 : IVec S32x512 32) (v1012 : IVec S32x512 32), IVec S32x512 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v624 v971
  let ⟨v1018, v1049, v1053⟩ : Σ' (v1018 : FVec F S32x512 .f32) (v1049 : IVec S32x512 32), IVec S32x512 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v1007 v1012 v1013
  let ⟨v1060, v1091, v1092⟩ : Σ' (v1060 : FVec F S32x512 .f32) (v1091 : IVec S32x512 32), Vec F S1x1x512 .i32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v1049 v1053
  let ⟨v1102, v1133⟩ : Σ' (v1102 : FVec F S32x512 .f32), IVec S32x512 32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 v624 v1091 v1092
  let ⟨v1156, v1158, v1160, v1172⟩ : Σ' (v1156 : FVec F S1x512 .f32) (v1158 : FVec F S1x512 .f32) (v1160 : FVec F S1x512 .f32), FVec F S1x512 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 cst_2 k0_h2 v624 v1018 v1060 v1102 v1133
  let v1176 : Vec F S1x1x512x128 .f32 ← Prog.lift (.load arg14 (Rect.unit (s := S6x4x512x128) (k0_off6 i) S1x1x512x128.size (k0_off6_inb i k0_h2)).toLoadRect (View.loadsAt_vmem h_S1x1x512x128))
  Prog.lift (.store arg14 (Rect.unit (s := S6x4x512x128) (k0_off6 i) S1x1x512x128.size (k0_off6_inb i k0_h2)) (k0_pay65 v1172) Finset.univ (View.stores_vmem_bits_univ h_S1x1x512x128 rfl) (.inl rfl))
  let v1179 : Vec F S1x512 .f32 ← Prog.lift (.load arg6 (Rect.unit (s := S1x512) ![0, 0] S1x512.size inb_S1x512_S1x512_0_0).toLoadRect (View.loadsAt_vmem h_S1x512))
  let v1189 : Vec F S1x1x512x128 .f32 ← Prog.lift (.load arg14 (Rect.unit (s := S6x4x512x128) (k0_off7 i) S1x1x512x128.size (k0_off7_inb i k0_h2)).toLoadRect (View.loadsAt_vmem h_S1x1x512x128))
  Prog.lift (.store arg14 (Rect.unit (s := S6x4x512x128) (k0_off7 i) S1x1x512x128.size (k0_off7_inb i k0_h2)) (k0_pay66 v1156 v1158 v1179) Finset.univ (View.stores_vmem_bits_univ h_S1x1x512x128 rfl) (.inl rfl))
  let v1196 : Vec F S1x1x512x128 .f32 ← Prog.lift (.load arg14 (Rect.unit (s := S6x4x512x128) (k0_off8 i) S1x1x512x128.size (k0_off8_inb i k0_h2)).toLoadRect (View.loadsAt_vmem h_S1x1x512x128))
  Prog.lift (.store arg14 (Rect.unit (s := S6x4x512x128) (k0_off8 i) S1x1x512x128.size (k0_off8_inb i k0_h2)) (k0_pay67 v1160) Finset.univ (View.stores_vmem_bits_univ h_S1x1x512x128 rfl) (.inl rfl))
  pure ⟨⟩

/-- What the body reads before its first chunk is stored. -/
noncomputable def segC0 (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (arg1 : BitVec 32) :
    Prog (TpuEff nD τ sig (Elt F) Λ₀ .tc) (Σ' (arg1 : BitVec 32) (v8 : FVec F S512x384 .bf16) (v10 : FVec F S512x256 .f32) (v13 : FVec F S512x128 .f32), FVec F S512x128 .f32) := do
  let v7 : Vec F S1x512x384 .bf16 ← Prog.lift (.load arg13 (Rect.unit (s := S6x512x384) (k0_off9 i) S1x512x384.size (k0_off9_inb i)).toLoadRect (View.loadsAt_vmem h_S1x512x384))
  let v9 : Vec F S384x256 .bf16 ← Prog.lift (.load arg15 (Rect.unit (s := S384x2048) ![0, 0] S384x256.size inb_S384x2048_S384x256_0_0).toLoadRect (View.loadsAt_vmem h_S384x256))
  let v12 : Vec F S1x1x512x128 .f32 ← Prog.lift (.load arg14 (Rect.unit (s := S6x4x512x128) (k0_off10 i) S1x1x512x128.size (k0_off10_inb i)).toLoadRect (View.loadsAt_vmem h_S1x1x512x128))
  let v16 : Vec F S1x1x512x128 .f32 ← Prog.lift (.load arg14 (Rect.unit (s := S6x4x512x128) (k0_off11 i) S1x1x512x128.size (k0_off11_inb i)).toLoadRect (View.loadsAt_vmem h_S1x1x512x128))
  let v20 : Vec F S1x1x512x128 .f32 ← Prog.lift (.load arg14 (Rect.unit (s := S6x4x512x128) (k0_off12 i) S1x1x512x128.size (k0_off12_inb i)).toLoadRect (View.loadsAt_vmem h_S1x1x512x128))
  let v22 : Vec F S1x128 .f32 ← Prog.lift (.load arg16 (Rect.unit (s := S8x2048) ![0, 0] S1x128.size inb_S8x2048_S1x128_0_0).toLoadRect (View.loadsAt_vmem h_S1x128))
  let v27 : Vec F S1x1x512x128 .f32 ← Prog.lift (.load arg14 (Rect.unit (s := S6x4x512x128) (k0_off13 i) S1x1x512x128.size (k0_off13_inb i)).toLoadRect (View.loadsAt_vmem h_S1x1x512x128))
  pure ⟨arg1, k0_pay68 v7, k0_pay69 v7 v9, k0_pay70 v12, k0_pay71 v7 v9 v16 v20 v22 v27⟩

/-- The second region, where it runs, and then the first reads of the chunks. -/
noncomputable def segBC (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    Prog (TpuEff nD τ sig (Elt F) Λ₀ .tc) (Σ' (arg1 : BitVec 32) (v8 : FVec F S512x384 .bf16) (v10 : FVec F S512x256 .f32) (v13 : FVec F S512x128 .f32), FVec F S512x128 .f32) := do
  if k0_h2 : k0_cond2 i = 1#1 then do
    segB i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Scalar.ofBits .f32 0x419CC471#32) k0_h2
    segC0 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val)
  else segC0 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val)

/-- The grid's second coordinate is zero: the first point of a column block. -/
abbrev condA (i : grid0.Coords) : Prop :=
  Scalar.cmpi .ne (Scalar.extui (Scalar.cmpi .eq (BitVec.ofNat 32 (i 1).val) 0#32) : BitVec 32) 0#32 = 1#1

/-- The first part holding both regions is the three segments in order. -/
theorem part19_eq (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    k0_part19 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 =
      if _h : condA i then do
        segA i arg2 harg2 arg3 harg3 arg4 harg4 arg5 harg5 arg6 harg6 arg7 harg7 arg8 harg8 arg9 harg9 arg10 harg10 arg11 harg11 arg12 harg12 arg13 harg13 arg14 harg14 arg15 harg15 arg16 harg16
        segBC i arg2 harg2 arg3 harg3 arg4 harg4 arg5 harg5 arg6 harg6 arg7 harg7 arg8 harg8 arg9 harg9 arg10 harg10 arg11 harg11 arg12 harg12 arg13 harg13 arg14 harg14 arg15 harg15 arg16 harg16
      else segBC i arg2 harg2 arg3 harg3 arg4 harg4 arg5 harg5 arg6 harg6 arg7 harg7 arg8 harg8 arg9 harg9 arg10 harg10 arg11 harg11 arg12 harg12 arg13 harg13 arg14 harg14 arg15 harg15 arg16 harg16 := rfl

end Cert.Proof.KernelIdeal
-- ==== Proof.RunA.lean ====
module

public import proofs.«01_k».proof.Proof.Seg
public import proofs.«01_k».proof.Proof.Gen.KernelIdeal.Frame

/-! The region run at the first point of a column block. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run: what it leaves in the buffers it writes, as a function of what it found. -/
noncomputable def runA (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f7 : Bf (F := F) c arg7) (f8 : Bf (F := F) c arg8) (f9 : Bf (F := F) c arg9) (f15 : Bf (F := F) c arg15) (f16 : Bf (F := F) c arg16) :
    { W : Bf (F := F) c arg15 × Bf (F := F) c arg16 // ∀ (E : Set ℕ) (Q : PUnit → sProp 𝕄),
      iprop(pt c arg7 f7 ∗ pt c arg8 f8 ∗ pt c arg9 f9 ∗ pt c arg15 f15 ∗ pt c arg16 f16 ∗ (iprop(pt c arg7 f7 ∗ pt c arg8 f8 ∗ pt c arg9 f9 ∗ pt c arg15 W.1 ∗ pt c arg16 W.2) -∗ Q ⟨⟩))
      ⊢ wp frame (wpE (defs₀ (F := F)) Variants.none c none) E (segA (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_⟩, fun E Q => ?run⟩
  case run =>
    unfold segA
    iintro ⟨H7, H8, H9, H15, H16, Hk⟩
    sl_exec_parts!
    sl_step
    iapply Hk
    isplitl [H7]; · iexact H7
    isplitl [H8]; · iexact H8
    isplitl [H9]; · iexact H9
    isplitl [H15]; · iexact H15
    iexact H16

end Cert.Proof.KernelIdeal
-- ==== Proof.RunB.lean ====
module

public import proofs.«01_k».proof.Proof.Seg
public import proofs.«01_k».proof.Proof.Gen.KernelIdeal.Frame

/-! The region run in the first sweep. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The run: what it leaves in the buffers it writes, as a function of what it found. -/
noncomputable def runB (c : Dev nD) (i : grid0.Coords) (h2 : k0_cond2 i = 1#1) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := F) c arg2) (f3 : Bf (F := F) c arg3) (f4 : Bf (F := F) c arg4) (f5 : Bf (F := F) c arg5) (f6 : Bf (F := F) c arg6) (f13 : Bf (F := F) c arg13) (f14 : Bf (F := F) c arg14) :
    { W : Bf (F := F) c arg13 × Bf (F := F) c arg14 // ∀ (E : Set ℕ) (Q : PUnit → sProp 𝕄),
      iprop(pt c arg2 f2 ∗ pt c arg3 f3 ∗ pt c arg4 f4 ∗ pt c arg5 f5 ∗ pt c arg6 f6 ∗ pt c arg13 f13 ∗ pt c arg14 f14 ∗ (iprop(pt c arg2 f2 ∗ pt c arg3 f3 ∗ pt c arg4 f4 ∗ pt c arg5 f5 ∗ pt c arg6 f6 ∗ pt c arg13 W.1 ∗ pt c arg14 W.2) -∗ Q ⟨⟩))
      ⊢ wp frame (wpE (defs₀ (F := F)) Variants.none c none) E (segB (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) (Scalar.ofBits .f32 0x419CC471#32) h2) Q } := by
  refine ⟨⟨?_, ?_⟩, fun E Q => ?run⟩
  case run =>
    unfold segB
    iintro ⟨H2, H3, H4, H5, H6, H13, H14, Hk⟩
    sl_exec_parts!
    sl_step
    iapply Hk
    isplitl [H2]; · iexact H2
    isplitl [H3]; · iexact H3
    isplitl [H4]; · iexact H4
    isplitl [H5]; · iexact H5
    isplitl [H6]; · iexact H6
    isplitl [H13]; · iexact H13
    iexact H14

end Cert.Proof.KernelIdeal
-- ==== Proof.RunC.lean ====
module

public import proofs.«01_k».proof.Proof.Seg
public import proofs.«01_k».proof.Proof.Gen.KernelIdeal.Frame

/-! The sixteen column chunks of a point. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body does after the first reads of its chunks. -/
noncomputable def restC (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (r : (Σ' (arg1 : BitVec 32) (v8 : FVec F S512x384 .bf16) (v10 : FVec F S512x256 .f32) (v13 : FVec F S512x128 .f32), FVec F S512x128 .f32)) :
    Prog (TpuEff nD τ sig (Elt F) Λ₀ .tc) PUnit := do
  let ⟨arg1, v8, v10, v13, v29⟩ := r
  let ⟨v50, v62⟩ : Σ' (v50 : FVec F S512x128 .f32), FVec F S512x128 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v10 v13 v29
  let ⟨v86, v89, v90, v93⟩ : Σ' (v86 : FVec F S512x256 .f32) (v89 : FVec F S512x128 .f32) (v90 : FVec F S512x128 .f32), FVec F S512x128 .f32 ← k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v50 v62
  let v125 : Vec F S1x1x512x128 .f32 ← k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v89 v90 v93
  let v159 : FVec F S512x128 .f32 ← k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v86 v125
  let ⟨v162, v165, v184, v189, v191⟩ : Σ' (v162 : FVec F S512x256 .f32) (v165 : FVec F S512x128 .f32) (v184 : FVec F S512x128 .f32) (v189 : FVec F S512x128 .f32), FVec F S512x128 .f32 ← k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v159
  let ⟨v202, v221⟩ : Σ' (v202 : FVec F S512x128 .f32), FVec F S512x128 .f32 ← k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v162 v165 v184 v189 v191
  let ⟨v238, v241, v253, v255⟩ : Σ' (v238 : FVec F S512x256 .f32) (v241 : FVec F S512x128 .f32) (v253 : FVec F S512x128 .f32), Vec F S1x1x512x128 .f32 ← k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v202 v221
  let ⟨v278, v283, v286, v287⟩ : Σ' (v278 : FVec F S512x128 .f32) (v283 : FVec F S512x128 .f32) (v286 : FVec F S512x128 .f32), Vec F S1x128 .f32 ← k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v238 v241 v253 v255
  let ⟨v314, v317, v318⟩ : Σ' (v314 : FVec F S512x256 .f32) (v317 : FVec F S512x128 .f32), FVec F S512x128 .f32 ← k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v278 v283 v286 v287
  k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v317 v318
  let ⟨v354, v385⟩ : Σ' (v354 : FVec F S512x128 .f32), Vec F S1x128 .f32 ← k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v314
  let ⟨v390, v393, v412, v417⟩ : Σ' (v390 : FVec F S512x256 .f32) (v393 : FVec F S512x128 .f32) (v412 : FVec F S512x128 .f32), FVec F S512x128 .f32 ← k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v354 v385
  let ⟨v430, v449⟩ : Σ' (v430 : FVec F S512x128 .f32), FVec F S512x128 .f32 ← k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v390 v393 v412 v417
  let ⟨v466, v469, v481⟩ : Σ' (v466 : FVec F S512x256 .f32) (v469 : FVec F S512x128 .f32), FVec F S512x128 .f32 ← k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v430 v449
  let ⟨v506, v511, v514⟩ : Σ' (v506 : FVec F S512x128 .f32) (v511 : FVec F S512x128 .f32), FVec F S512x128 .f32 ← k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v466 v469 v481
  let ⟨v542, v545, v546⟩ : Σ' (v542 : FVec F S512x256 .f32) (v545 : FVec F S512x128 .f32), FVec F S512x128 .f32 ← k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v8 v506 v511 v514
  let v578 : FVec F S512x128 .f32 ← k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v545 v546
  let v582 : FVec F S512x128 .f32 ← k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg1 v542 v578
  let v613 : Vec F S1x128 .f32 ← Prog.lift (.load arg16 (Rect.unit (s := S8x2048) ![4, 1920] S1x128.size inb_S8x2048_S1x128_4_1920).toLoadRect (View.loadsAt_vmem h_S1x128))
  let v616 : Vec F S512x128 .f32 ← Prog.lift (.load arg11 (Rect.unit (s := S512x2048) ![0, 1920] S512x128.size inb_S512x2048_S512x128_0_1920).toLoadRect (View.loadsAt_vmem h_S512x128))
  Prog.lift (.store arg11 (Rect.unit (s := S512x2048) ![0, 1920] S512x128.size inb_S512x2048_S512x128_0_1920) (k0_pay1 v582 v613) Finset.univ (View.stores_vmem_bits_univ h_S512x128 rfl) (.inl rfl))
  pure ⟨⟩

/-- The sixteen column chunks. -/
noncomputable def segC (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    Prog (TpuEff nD τ sig (Elt F) Λ₀ .tc) PUnit :=
  segC0 i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) >>= restC i arg2 harg2 arg3 harg3 arg4 harg4 arg5 harg5 arg6 harg6 arg7 harg7 arg8 harg8 arg9 harg9 arg10 harg10 arg11 harg11 arg12 harg12 arg13 harg13 arg14 harg14 arg15 harg15 arg16 harg16

/-- The body is the first part and then the rest of the chunks. -/
theorem cc0_rabitq_eq (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) :
    cc0_rabitq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 = k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 >>= restC i arg2 harg2 arg3 harg3 arg4 harg4 arg5 harg5 arg6 harg6 arg7 harg7 arg8 harg8 arg9 harg9 arg10 harg10 arg11 harg11 arg12 harg12 arg13 harg13 arg14 harg14 arg15 harg15 arg16 harg16 := by
  rw [cc0_rabitq_eq_skeleton]
  rfl

/-- The run: what it leaves in the buffers it writes, as a function of what it found. -/
noncomputable def runC (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f13 : Bf (F := F) c arg13) (f14 : Bf (F := F) c arg14) (f15 : Bf (F := F) c arg15) (f16 : Bf (F := F) c arg16) (f10 : Bf (F := F) c arg10) (f11 : Bf (F := F) c arg11) (f12 : Bf (F := F) c arg12) :
    { W : Bf (F := F) c arg10 × Bf (F := F) c arg11 × Bf (F := F) c arg12 // ∀ (E : Set ℕ) (Q : PUnit → sProp 𝕄),
      iprop(pt c arg13 f13 ∗ pt c arg14 f14 ∗ pt c arg15 f15 ∗ pt c arg16 f16 ∗ pt c arg10 f10 ∗ pt c arg11 f11 ∗ pt c arg12 f12 ∗ (iprop(pt c arg13 f13 ∗ pt c arg14 f14 ∗ pt c arg15 f15 ∗ pt c arg16 f16 ∗ pt c arg10 W.1 ∗ pt c arg11 W.2.1 ∗ pt c arg12 W.2.2) -∗ Q ⟨⟩))
      ⊢ wp frame (wpE (defs₀ (F := F)) Variants.none c none) E (segC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q } := by
  refine ⟨⟨?_, ?_, ?_⟩, fun E Q => ?run⟩
  case run =>
    unfold segC segC0 restC
    iintro ⟨H13, H14, H15, H16, H10, H11, H12, Hk⟩
    sl_exec_parts!
    sl_step
    iapply Hk
    isplitl [H13]; · iexact H13
    isplitl [H14]; · iexact H14
    isplitl [H15]; · iexact H15
    isplitl [H16]; · iexact H16
    isplitl [H10]; · iexact H10
    isplitl [H11]; · iexact H11
    iexact H12

end Cert.Proof.KernelIdeal
-- ==== Proof.Body.lean ====
module

public import proofs.«01_k».proof.Proof.RunA
public import proofs.«01_k».proof.Proof.RunB
public import proofs.«01_k».proof.Proof.RunC

/-! The whole body at a point: what it leaves in every buffer. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

section Whole

variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16)

/-- The bits' buffer and the database rows' buffer after the first region. -/
noncomputable def left15 : Bf (F := F) c arg15 :=
  if condA i then (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.1 else f15
noncomputable def left16 : Bf (F := F) c arg16 :=
  if condA i then (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.2 else f16

/-- The query codes' buffer and the query columns' buffer after the second region. -/
noncomputable def left13 : Bf (F := F) c arg13 :=
  if h2 : k0_cond2 i = 1#1 then (runB c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.1 else f13
noncomputable def left14 : Bf (F := F) c arg14 :=
  if h2 : k0_cond2 i = 1#1 then (runB c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.2 else f14

/-- The three results' buffers after the chunks. -/
noncomputable def leftC : Bf (F := F) c arg10 × Bf (F := F) c arg11 × Bf (F := F) c arg12 :=
  (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) f10 f11 f12).1

/-- The body's triple. -/
theorem body_wp (E : Set ℕ) (Q : PUnit → sProp 𝕄) :
    iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 ∗ pt c arg11 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1 ∗ pt c arg12 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2 ∗ pt c arg13 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg14 (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg15 (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) ∗ pt c arg16 (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) -∗ Q ⟨⟩))
      ⊢ wp frame (wpE (defs₀ (F := F)) Variants.none c none) E (cc0_rabitq (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
  have hC : ∀ (g13 : Bf (F := F) c arg13) (g14 : Bf (F := F) c arg14) (g15 : Bf (F := F) c arg15) (g16 : Bf (F := F) c arg16),
      left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14 = g13 → left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14 = g14 → left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g15 → left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g16 →
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 g13 ∗ pt c arg14 g14 ∗ pt c arg15 g15 ∗ pt c arg16 g16 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 ∗ pt c arg11 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1 ∗ pt c arg12 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2 ∗ pt c arg13 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg14 (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg15 (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) ∗ pt c arg16 (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) -∗ Q ⟨⟩))
      ⊢ wp frame (wpE (defs₀ (F := F)) Variants.none c none) E (segC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) Q := by
    rintro g13 g14 g15 g16 rfl rfl rfl rfl
    iintro ⟨H2, H3, H4, H5, H6, H7, H8, H9, H10, H11, H12, H13, H14, H15, H16, Hk⟩
    iapply ((runC c i arg2 harg2 arg3 harg3 arg4 harg4 arg5 harg5 arg6 harg6 arg7 harg7 arg8 harg8 arg9 harg9 arg10 harg10 arg11 harg11 arg12 harg12 arg13 harg13 arg14 harg14 arg15 harg15 arg16 harg16 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) f10 f11 f12).2 E Q)
    isplitl [H13]; · iexact H13
    isplitl [H14]; · iexact H14
    isplitl [H15]; · iexact H15
    isplitl [H16]; · iexact H16
    isplitl [H10]; · iexact H10
    isplitl [H11]; · iexact H11
    isplitl [H12]; · iexact H12
    iintro ⟨H13, H14, H15, H16, H10, H11, H12⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact H16
  have hB : ∀ (g15 : Bf (F := F) c arg15) (g16 : Bf (F := F) c arg16),
      left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g15 → left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 = g16 →
      iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 g15 ∗ pt c arg16 g16 ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1 ∗ pt c arg11 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1 ∗ pt c arg12 (leftC c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2 ∗ pt c arg13 (left13 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg14 (left14 c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) ∗ pt c arg15 (left15 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) ∗ pt c arg16 (left16 c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) -∗ Q ⟨⟩))
      ⊢ wp frame (wpE (defs₀ (F := F)) Variants.none c none) E (segBC (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) (fun r => wp frame (wpE (defs₀ (F := F)) Variants.none c none) E (restC i arg2 harg2 arg3 harg3 arg4 harg4 arg5 harg5 arg6 harg6 arg7 harg7 arg8 harg8 arg9 harg9 arg10 harg10 arg11 harg11 arg12 harg12 arg13 harg13 arg14 harg14 arg15 harg15 arg16 harg16 r) Q) := by
    intro g15 g16 e15 e16
    have hC' := hC
    unfold segC at hC'
    simp only [wp_bind] at hC'
    unfold segBC
    by_cases h2 : k0_cond2 i = 1#1
    · rw [dif_pos h2, wp_bind]
      iintro ⟨H2, H3, H4, H5, H6, H7, H8, H9, H10, H11, H12, H13, H14, H15, H16, Hk⟩
      iapply ((runB c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).2 E _)
      isplitl [H2]; · iexact H2
      isplitl [H3]; · iexact H3
      isplitl [H4]; · iexact H4
      isplitl [H5]; · iexact H5
      isplitl [H6]; · iexact H6
      isplitl [H13]; · iexact H13
      isplitl [H14]; · iexact H14
      iintro ⟨H2, H3, H4, H5, H6, H13, H14⟩
      iapply (hC' _ _ g15 g16 (by unfold left13; rw [dif_pos h2]) (by unfold left14; rw [dif_pos h2]) e15 e16)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact Hk
    · rw [dif_neg h2]
      exact hC' _ _ g15 g16 (by unfold left13; rw [dif_neg h2]) (by unfold left14; rw [dif_neg h2]) e15 e16
  rw [cc0_rabitq_eq]
  simp only [wp_bind]
  rw [part19_eq]
  by_cases h1 : condA i
  · rw [dif_pos h1, wp_bind]
    iintro ⟨H2, H3, H4, H5, H6, H7, H8, H9, H10, H11, H12, H13, H14, H15, H16, Hk⟩
    iapply ((runA c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).2 E _)
    isplitl [H7]; · iexact H7
    isplitl [H8]; · iexact H8
    isplitl [H9]; · iexact H9
    isplitl [H15]; · iexact H15
    isplitl [H16]; · iexact H16
    iintro ⟨H7, H8, H9, H15, H16⟩
    iapply (hB _ _ (by unfold left15; rw [if_pos h1]) (by unfold left16; rw [if_pos h1]))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact Hk
  · rw [dif_neg h1]
    exact hB _ _ (by unfold left15; rw [if_neg h1]) (by unfold left16; rw [if_neg h1])

end Whole

end Cert.Proof.KernelIdeal
-- ==== Proof.FrameOnly.lean ====
module

public import proofs.«01_k».proof.Proof.Body

/-! The frame: the kernel runs to its end and leaves its argument arrays as they were, nothing said of the results. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at contents `X` is its buffer held at contents that read as `X`. -/
theorem owns_isWhole_eq (c : Dev nD) {sp : Space} {S : Shape} {e : EltTy} {M : Memref sig .tc sp S e} (h : M.IsWhole)
    (q : PosShare TreeShare) (X : S.Idx → Elt F e) :
    (owns (c : Thread nD τ) M q X : sProp 𝕄)
      = iprop(∃ f : Bf (F := F) c M, ⌜M.view.read (Elt F) f = X⌝ ∗ (M.view.loc (c : Thread nD τ) ↦{q} f)) := by
  obtain ⟨b, hsp, hsh, he, h⟩ := h
  subst hsp hsh he
  cases h
  unfold owns
  simp only [Memref.view_whole, View.set_whole]

/-- A whole memref's buffer held at some contents is it owned at some contents. -/
theorem owns_exists (c : Dev nD) {sp : Space} {S : Shape} {e : EltTy} {M : Memref sig .tc sp S e} (h : M.IsWhole)
    (f : Bf (F := F) c M) : (pt c M f) ⊢ (iprop(∃ X, owns (c : Thread nD τ) M fullShare X) : sProp 𝕄) := by
  iintro H
  iexists (M.view.read (Elt F) f)
  rw [owns_isWhole_eq c h]
  iexists f
  isplitr
  · ipureintro; rfl
  · iexact H

/-- The proof data that name nothing the body leaves. -/
def fdats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

theorem fbody (c : Dev nD) :
    BodyObligationLoose (fdats m 0 c) (defs₀ (F := F)) Variants.none () Set.univ (fun _ => true) := by
  intro t
  rw [bigSep_W0]
  dsimp only
  rw [show (fdats m 0 c).Φ t.castSucc = Pipeline.ΦA spec0 c from rfl, show (fdats m 0 c).Φ t.succ = Pipeline.ΦA spec0 c from rfl,
    show (fdats m 0 c).owesAt () t.succ = (fdats m 0 c).owesAt () t.castSucc from rfl]
  unfold Pipeline.ΦA
  rw [scopedRest0_eq]
  iintro ⟨⟨⟨⟨%g13, H13⟩, ⟨%g14, H14⟩, ⟨%g15, H15⟩, ⟨%g16, H16⟩⟩, Hr⟩, Ho, ⟨%X2, H2⟩, ⟨%X3, H3⟩, ⟨%X4, H4⟩, ⟨%X5, H5⟩, ⟨%X6, H6⟩, ⟨%X7, H7⟩, ⟨%X8, H8⟩, ⟨%X9, H9⟩, ⟨%X10, H10⟩, ⟨%X11, H11⟩, ⟨%X12, H12⟩⟩
  ihave H2 := (Entails.of_eq (owns_isWhole_eq (M := stage0_0 (cfg0.slots t 0)) c (hstage0_0 ((cfg0.slots t 0).cast nbuf0_0)) fullShare X2)) $$ H2
  icases H2 with ⟨%f2, -, H2⟩
  ihave H3 := (Entails.of_eq (owns_isWhole_eq (M := stage0_1 (cfg0.slots t 1)) c (hstage0_1 ((cfg0.slots t 1).cast nbuf0_1)) fullShare X3)) $$ H3
  icases H3 with ⟨%f3, -, H3⟩
  ihave H4 := (Entails.of_eq (owns_isWhole_eq (M := stage0_2 (cfg0.slots t 2)) c (hstage0_2 ((cfg0.slots t 2).cast nbuf0_2)) fullShare X4)) $$ H4
  icases H4 with ⟨%f4, -, H4⟩
  ihave H5 := (Entails.of_eq (owns_isWhole_eq (M := stage0_3 (cfg0.slots t 3)) c (hstage0_3 ((cfg0.slots t 3).cast nbuf0_3)) fullShare X5)) $$ H5
  icases H5 with ⟨%f5, -, H5⟩
  ihave H6 := (Entails.of_eq (owns_isWhole_eq (M := stage0_4 (cfg0.slots t 4)) c (hstage0_4 ((cfg0.slots t 4).cast nbuf0_4)) fullShare X6)) $$ H6
  icases H6 with ⟨%f6, -, H6⟩
  ihave H7 := (Entails.of_eq (owns_isWhole_eq (M := stage0_5 (cfg0.slots t 5)) c (hstage0_5 ((cfg0.slots t 5).cast nbuf0_5)) fullShare X7)) $$ H7
  icases H7 with ⟨%f7, -, H7⟩
  ihave H8 := (Entails.of_eq (owns_isWhole_eq (M := stage0_6 (cfg0.slots t 6)) c (hstage0_6 ((cfg0.slots t 6).cast nbuf0_6)) fullShare X8)) $$ H8
  icases H8 with ⟨%f8, -, H8⟩
  ihave H9 := (Entails.of_eq (owns_isWhole_eq (M := stage0_7 (cfg0.slots t 7)) c (hstage0_7 ((cfg0.slots t 7).cast nbuf0_7)) fullShare X9)) $$ H9
  icases H9 with ⟨%f9, -, H9⟩
  ihave H10 := (Entails.of_eq (owns_isWhole_eq (M := stage0_8 (cfg0.slots t 8)) c (hstage0_8 ((cfg0.slots t 8).cast nbuf0_8)) fullShare X10)) $$ H10
  icases H10 with ⟨%f10, -, H10⟩
  ihave H11 := (Entails.of_eq (owns_isWhole_eq (M := stage0_9 (cfg0.slots t 9)) c (hstage0_9 ((cfg0.slots t 9).cast nbuf0_9)) fullShare X11)) $$ H11
  icases H11 with ⟨%f11, -, H11⟩
  ihave H12 := (Entails.of_eq (owns_isWhole_eq (M := stage0_10 (cfg0.slots t 10)) c (hstage0_10 ((cfg0.slots t 10).cast nbuf0_10)) fullShare X12)) $$ H12
  icases H12 with ⟨%f12, -, H12⟩
  iapply (body_wp c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 g13 g14 g15 g16 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  isplitl [H13 H14 H15 H16 Hr]
  · isplitl [H13 H14 H15 H16]
    · isplitl [H13]; · iexists _; iexact H13
      isplitl [H14]; · iexists _; iexact H14
      isplitl [H15]; · iexists _; iexact H15
      iexists _; iexact H16
    · iexact Hr
  isplitl [Ho]; · iexact Ho
  isplitl [H2]; · iapply (owns_exists (M := stage0_0 (cfg0.slots t 0)) c (hstage0_0 ((cfg0.slots t 0).cast nbuf0_0)) _) $$ H2
  isplitl [H3]; · iapply (owns_exists (M := stage0_1 (cfg0.slots t 1)) c (hstage0_1 ((cfg0.slots t 1).cast nbuf0_1)) _) $$ H3
  isplitl [H4]; · iapply (owns_exists (M := stage0_2 (cfg0.slots t 2)) c (hstage0_2 ((cfg0.slots t 2).cast nbuf0_2)) _) $$ H4
  isplitl [H5]; · iapply (owns_exists (M := stage0_3 (cfg0.slots t 3)) c (hstage0_3 ((cfg0.slots t 3).cast nbuf0_3)) _) $$ H5
  isplitl [H6]; · iapply (owns_exists (M := stage0_4 (cfg0.slots t 4)) c (hstage0_4 ((cfg0.slots t 4).cast nbuf0_4)) _) $$ H6
  isplitl [H7]; · iapply (owns_exists (M := stage0_5 (cfg0.slots t 5)) c (hstage0_5 ((cfg0.slots t 5).cast nbuf0_5)) _) $$ H7
  isplitl [H8]; · iapply (owns_exists (M := stage0_6 (cfg0.slots t 6)) c (hstage0_6 ((cfg0.slots t 6).cast nbuf0_6)) _) $$ H8
  isplitl [H9]; · iapply (owns_exists (M := stage0_7 (cfg0.slots t 7)) c (hstage0_7 ((cfg0.slots t 7).cast nbuf0_7)) _) $$ H9
  isplitl [H10]; · iapply (owns_exists (M := stage0_8 (cfg0.slots t 8)) c (hstage0_8 ((cfg0.slots t 8).cast nbuf0_8)) _) $$ H10
  isplitl [H11]; · iapply (owns_exists (M := stage0_9 (cfg0.slots t 9)) c (hstage0_9 ((cfg0.slots t 9).cast nbuf0_9)) _) $$ H11
  iapply (owns_exists (M := stage0_10 (cfg0.slots t 10)) c (hstage0_10 ((cfg0.slots t 10).cast nbuf0_10)) _) $$ H12

/-- The kernel's frame, and every counter at rest. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have h := Pipeline.θ_run_frame_forget cfgs (fdats m) 0 launch0 (defs₀ (F := F)) Variants.none (fun _ => true) m ρ (main (F := F))
    (fbody m) (fun c w => by fin_cases w <;> rfl) (fun c t => rfl) (V m) (hmain m Variants.none) (fun c w => rfl) (fun c t => rfl)
    (fun r => Pipeline.RDat.FramePost cfg0 (fun c => (fdats m 0 c).toRForget (fun _ => true)) (V m) r ∧ r.2.sem = fun _ => 0)
    (fun _ h => h)
  refine (θ_run defs _ _).mono (fun r h => ⟨fun c => ?_, h.2⟩) h
  exact ⟨((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c)⟩

end Cert.Proof.KernelIdeal
-- ==== Proof.RefRun.lean ====
module

public import proofs.«01_k».proof.Proof.Gen.ReferenceIdeal.Run
public import proofs.«01_k».proof.Proof.Gen.ReferenceIdeal.Read

/-! The reference's run. -/
-- ==== Proof.ValC.lean ====
module

public import proofs.«01_k».proof.Proof.RunC
public import Idealize.ShloMosaic.Lib.Pipeline.Value
public import Idealize.ShloMosaic.Lib.MatmulPlain
public import Idealize.ShloMosaic.Lib.ValueIdxCore
public import Idealize.ShloMosaic.Lib.Writes

/-! What the sixteen column chunks of a point leave in the three result blocks, entry by entry, over the extended reals. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

open Idealize.ShloMosaic.ValueIdx

/-- A load of one row of the row table, spread over the rows of a chunk. -/
theorem row_at {α : Type} (v : S1x128.Idx → α) (h) (x : S512x128.Idx) :
    broadcastTo S512x128 v h x = v (ix2 0 (x 1)) := by
  refine broadcastTo_apply v h x _ fun a => ?_
  match a with
  | ⟨0, _⟩ => rfl
  | ⟨1, _⟩ => rfl

/-- A load of one column of the column table, its unit axes dropped. -/
theorem col_at {α : Type} (v : S1x1x512x128.Idx → α) (h) (x : S512x128.Idx) :
    shapeCast S512x128 v h x = v (ix4 0 0 (x 0) (x 1)) := by
  refine shapeCast_apply v h x _ ?_
  rw [Shape.rowMajor_val_four, Shape.rowMajor_val_two]
  show (((0 * 1) + 0) * 512 + (x 0).val) * 128 + (x 1).val = (x 0).val * 128 + (x 1).val
  omega

/-- A load of one block of the codes, its unit axis dropped. -/
theorem code_at {α : Type} (v : S1x512x384.Idx → α) (h) (x : S512x384.Idx) :
    shapeCast S512x384 v h x = v (ix3 0 (x 0) (x 1)) := by
  refine shapeCast_apply v h x _ ?_
  rw [Shape.rowMajor_val_three, Shape.rowMajor_val_two]
  show ((0 * 512) + (x 0).val) * 384 + (x 1).val = (x 0).val * 384 + (x 1).val
  omega

/-- A half of a product's block. -/
theorem half_at {α : Type} (o : ℕ) (ho : o + 128 ≤ 256) (v : S512x256.Idx → α) (h) (x : S512x128.Idx) :
    extractStridedSlice S512x128 ![0, o] v h x = v (ix2 (x 0) ⟨o + (x 1).val, by have := (x 1).isLt; change _ < 128 at this; omega⟩) := by
  refine extractStridedSlice_apply _ v h x _ fun a => ?_
  match a with
  | ⟨0, _⟩ => show (x 0).val = 0 + (x 0).val; omega
  | ⟨1, _⟩ => rfl

/-- The product of the codes with the bits. -/
theorem prod_at (l : FVec Ideal S512x384 .bf16) (r : FVec Ideal S384x256 .bf16) (y : S512x256.Idx) :
    matmul (F := Ideal) dot_S512x384_S384x256_S512x256_1_0_0_1_n_n none l r (constant S512x256 .f32 0x00000000#32) y
      = ∑ k : Fin 384, l (ix2 (y 0) k) * r (ix2 k (y 1)) := by
  have e : y = ix2 (y 0) (y 1) := Shape.idx_ext₂ rfl rfl
  rw [e]
  refine (Ideal.matmul_plain_apply (M := 512) (K := 384) (N := 256) none l r _ (y 0) (y 1)).trans ?_
  have z : (constant (F := Ideal) S512x256 .f32 0x00000000#32) (ix2 (y 0) (y 1)) = (0 : EReal) := by
    simp [constant, Ideal.ofBits, Ideal.ieee]
  rw [z, zero_add]

/-- Elementwise operations over the extended reals, at an index. -/
theorem mul_at {s : Shape} {φ : FTy} (a b : FVec Ideal s φ) (x : s.Idx) : mulf a b x = ((a x : EReal) * b x : EReal) := rfl
theorem add_at {s : Shape} {φ : FTy} (a b : FVec Ideal s φ) (x : s.Idx) : addf a b x = ((a x : EReal) + b x : EReal) := rfl
theorem sub_at {s : Shape} {φ : FTy} (a b : FVec Ideal s φ) (x : s.Idx) : subf a b x = ((a x : EReal) - b x : EReal) := rfl

/-- The chunk column of a block's column. -/
def lane (y : S512x2048.Idx) : Fin 128 := ⟨(y 1).val % 128, Nat.mod_lt _ (by decide)⟩

/-- The inner product of a query's codes with a database column's bits. -/
def accS (Q : S6x512x384.Idx → EReal) (B : S384x2048.Idx → EReal) (m : Fin 6) (y : S512x2048.Idx) : EReal :=
  ∑ k : Fin 384, Q (ix3 m (y 0) k) * B (ix2 k (y 1))

/-- The estimate. -/
def estS (Q : S6x512x384.Idx → EReal) (C : S6x4x512x128.Idx → EReal) (B : S384x2048.Idx → EReal) (R : S8x2048.Idx → EReal)
    (m : Fin 6) (y : S512x2048.Idx) : EReal :=
  (C (ix4 m 0 (y 0) (lane y)) * accS Q B m y + C (ix4 m 1 (y 0) (lane y)) * R (ix2 0 (y 1)) - C (ix4 m 2 (y 0) (lane y))) * R (ix2 1 (y 1))

/-- The distance. -/
def distS (Q : S6x512x384.Idx → EReal) (C : S6x4x512x128.Idx → EReal) (B : S384x2048.Idx → EReal) (R : S8x2048.Idx → EReal)
    (m : Fin 6) (y : S512x2048.Idx) : EReal :=
  R (ix2 2 (y 1)) + C (ix4 m 3 (y 0) (lane y)) * C (ix4 m 3 (y 0) (lane y)) - R (ix2 3 (y 1)) * C (ix4 m 3 (y 0) (lane y)) * estS Q C B R m y

/-- The error bound. -/
def boundS (C : S6x4x512x128.Idx → EReal) (R : S8x2048.Idx → EReal) (m : Fin 6) (y : S512x2048.Idx) : EReal :=
  C (ix4 m 3 (y 0) (lane y)) * R (ix2 4 (y 1))

/-- The estimate of a chunk as the kernel computes it. -/
def estCore (q : Vec Ideal S1x512x384 .bf16) (b : Vec Ideal S384x256 .bf16) (o : ℕ) (ho : S512x256.Slices ![0, o] S512x128)
    (c0 c1 c2 : Vec Ideal S1x1x512x128 .f32) (r0 r1 : Vec Ideal S1x128 .f32) : FVec Ideal S512x128 .f32 :=
  mulf (subf (addf
      (mulf (shapeCast S512x128 c0 shapeCasts_S1x1x512x128_S512x128)
        (extractStridedSlice S512x128 ![0, o]
          (matmul (φ₁ := .bf16) (φ₂ := .bf16) dot_S512x384_S384x256_S512x256_1_0_0_1_n_n none (shapeCast (α := Ideal .bf16) S512x384 q shapeCasts_S1x512x384_S512x384) b (constant S512x256 .f32 0x00000000#32)) ho))
      (mulf (shapeCast S512x128 c1 shapeCasts_S1x1x512x128_S512x128) (broadcastTo S512x128 r0 broadcasts_S1x128_S512x128)))
    (shapeCast S512x128 c2 shapeCasts_S1x1x512x128_S512x128)) (broadcastTo S512x128 r1 broadcasts_S1x128_S512x128)

/-- The distance of a chunk as the kernel computes it. -/
def distCore (c3 : Vec Ideal S1x1x512x128 .f32) (r2 r3 : Vec Ideal S1x128 .f32) (e : FVec Ideal S512x128 .f32) : FVec Ideal S512x128 .f32 :=
  subf (addf (broadcastTo S512x128 r2 broadcasts_S1x128_S512x128)
      (mulf (shapeCast S512x128 c3 shapeCasts_S1x1x512x128_S512x128) (shapeCast S512x128 c3 shapeCasts_S1x1x512x128_S512x128)))
    (mulf (mulf (broadcastTo S512x128 r3 broadcasts_S1x128_S512x128) (shapeCast S512x128 c3 shapeCasts_S1x1x512x128_S512x128)) e)

/-- The bound of a chunk as the kernel computes it. -/
def boundCore (c3 : Vec Ideal S1x1x512x128 .f32) (r4 : Vec Ideal S1x128 .f32) : FVec Ideal S512x128 .f32 :=
  mulf (shapeCast S512x128 c3 shapeCasts_S1x1x512x128_S512x128) (broadcastTo S512x128 r4 broadcasts_S1x128_S512x128)

section Pieces
variable (c : Dev nD) (i : grid0.Coords)
variable {arg13 : Memref sig .tc .vmem S6x512x384 .bf16} {arg14 : Memref sig .tc .vmem S6x4x512x128 .f32} {arg15 : Memref sig .tc .vmem S384x2048 .bf16} {arg16 : Memref sig .tc .vmem S8x2048 .f32}
variable (f13 : Bf (F := Ideal) c arg13) (f14 : Bf (F := Ideal) c arg14) (f15 : Bf (F := Ideal) c arg15) (f16 : Bf (F := Ideal) c arg16)

/-- A read of one row of the row table at a chunk. -/
theorem row_read (k lo : ℕ) (inb) (x : S1x128.Idx) (y : S8x2048.Idx) (h0 : (y 0).val = k) (h1 : (y 1).val = lo + (x 1).val) :
    arg16.view.readAt (Elt Ideal) (Rect.unit (s := S8x2048) ![k, lo] S1x128.size inb).toLoadRect f16 x = arg16.view.read (Elt Ideal) f16 y := by
  rw [View.readAt_apply]
  refine congrArg _ (Shape.idx_ext₂ ?_ ?_)
  · have := (x 0).isLt
    change _ < 1 at this
    show k + 1 * (x 0).val = _
    omega
  · show lo + 1 * (x 1).val = _
    omega

/-- A read of one column of the column table. -/
theorem col_read (off : Fin 4 → ℕ) (k : ℕ) (e : off = ![(i 1).val, k, 0, 0]) (inb) (x : S1x1x512x128.Idx) (y : S6x4x512x128.Idx)
    (h0 : (y 0).val = (i 1).val) (h1 : (y 1).val = k) (h2 : (y 2).val = (x 2).val) (h3 : (y 3).val = (x 3).val) :
    arg14.view.readAt (Elt Ideal) (Rect.unit (s := S6x4x512x128) off S1x1x512x128.size inb).toLoadRect f14 x = arg14.view.read (Elt Ideal) f14 y := by
  subst e
  rw [View.readAt_apply]
  refine congrArg _ (funext fun a => Fin.ext ?_)
  have a0 := (x 0).isLt; change _ < 1 at a0
  have a1 := (x 1).isLt; change _ < 1 at a1
  match a with
  | ⟨0, _⟩ => show (i 1).val + 1 * (x 0).val = (y 0).val; omega
  | ⟨1, _⟩ => show k + 1 * (x 1).val = (y 1).val; omega
  | ⟨2, _⟩ => show 0 + 1 * (x 2).val = (y 2).val; omega
  | ⟨3, _⟩ => show 0 + 1 * (x 3).val = (y 3).val; omega

/-- A read of one block of the codes. -/
theorem code_read (inb) (x : S1x512x384.Idx) (y : S6x512x384.Idx)
    (h0 : (y 0).val = (i 1).val) (h1 : (y 1).val = (x 1).val) (h2 : (y 2).val = (x 2).val) :
    arg13.view.readAt (Elt Ideal) (Rect.unit (s := S6x512x384) (k0_off9 i) S1x512x384.size inb).toLoadRect f13 x = arg13.view.read (Elt Ideal) f13 y := by
  rw [View.readAt_apply]
  have a0 := (x 0).isLt; change _ < 1 at a0
  have e := k0_off9_eq i
  refine congrArg _ (funext fun a => Fin.ext ?_)
  match a with
  | ⟨0, _⟩ => show k0_off9 i 0 + 1 * (x 0).val = (y 0).val; rw [e]; show (i 1).val + _ = _; omega
  | ⟨1, _⟩ => show k0_off9 i 1 + 1 * (x 1).val = (y 1).val; rw [e]; show 0 + _ = _; omega
  | ⟨2, _⟩ => show k0_off9 i 2 + 1 * (x 2).val = (y 2).val; rw [e]; show 0 + _ = _; omega

/-- A read of two chunks of the bits. -/
theorem bits_read (lo : ℕ) (inb) (x : S384x256.Idx) (y : S384x2048.Idx) (h0 : (y 0).val = (x 0).val) (h1 : (y 1).val = lo + (x 1).val) :
    arg15.view.readAt (Elt Ideal) (Rect.unit (s := S384x2048) ![0, lo] S384x256.size inb).toLoadRect f15 x = arg15.view.read (Elt Ideal) f15 y := by
  rw [View.readAt_apply]
  refine congrArg _ (Shape.idx_ext₂ ?_ ?_)
  · show 0 + 1 * (x 0).val = _
    omega
  · show lo + 1 * (x 1).val = _
    omega

/-- A chunk's place in the block. -/
theorem chunk_at (lo : ℕ) (inb) (x : S512x128.Idx) :
    ((Rect.unit (s := S512x2048) ![0, lo] S512x128.size inb).emb x 0).val = (x 0).val
      ∧ ((Rect.unit (s := S512x2048) ![0, lo] S512x128.size inb).emb x 1).val = lo + (x 1).val := by
  constructor
  · show 0 + 1 * (x 0).val = _
    omega
  · show lo + 1 * (x 1).val = _
    omega

/-- A chunk's estimate is the estimate at the chunk's place. -/
theorem est_piece (lo lb o : ℕ) (hlo : lo % 128 = 0) (hl : lo = lb + o) (ho2 : o + 128 ≤ 256) (inb iq ib ho ic0 ic1 ic2 ir0 ir1) (x : S512x128.Idx) :
    estCore (arg13.view.readAt (Elt Ideal) (Rect.unit (s := S6x512x384) (k0_off9 i) S1x512x384.size iq).toLoadRect f13) (arg15.view.readAt (Elt Ideal) (Rect.unit (s := S384x2048) ![0, lb] S384x256.size ib).toLoadRect f15) o ho (arg14.view.readAt (Elt Ideal) (Rect.unit (s := S6x4x512x128) (k0_off11 i) S1x1x512x128.size ic0).toLoadRect f14) (arg14.view.readAt (Elt Ideal) (Rect.unit (s := S6x4x512x128) (k0_off12 i) S1x1x512x128.size ic1).toLoadRect f14) (arg14.view.readAt (Elt Ideal) (Rect.unit (s := S6x4x512x128) (k0_off13 i) S1x1x512x128.size ic2).toLoadRect f14) (arg16.view.readAt (Elt Ideal) (Rect.unit (s := S8x2048) ![0, lo] S1x128.size ir0).toLoadRect f16) (arg16.view.readAt (Elt Ideal) (Rect.unit (s := S8x2048) ![1, lo] S1x128.size ir1).toLoadRect f16) x = estS (arg13.view.read (Elt Ideal) f13) (arg14.view.read (Elt Ideal) f14) (arg15.view.read (Elt Ideal) f15) (arg16.view.read (Elt Ideal) f16) (i 1) ((Rect.unit (s := S512x2048) ![0, lo] S512x128.size inb).emb x) := by
  obtain ⟨e0, e1⟩ := chunk_at lo inb x
  have el : (lane ((Rect.unit (s := S512x2048) ![0, lo] S512x128.size inb).emb x)).val = (x 1).val := by
    have := (x 1).isLt; change _ < 128 at this
    show (((Rect.unit (s := S512x2048) ![0, lo] S512x128.size inb).emb x) 1).val % 128 = _
    rw [e1]; omega
  have hacc : ∑ k : Fin 384, shapeCast S512x384 (arg13.view.readAt (Elt Ideal) (Rect.unit (s := S6x512x384) (k0_off9 i) S1x512x384.size iq).toLoadRect f13) shapeCasts_S1x512x384_S512x384 (ix2 (x 0) k) * (arg15.view.readAt (Elt Ideal) (Rect.unit (s := S384x2048) ![0, lb] S384x256.size ib).toLoadRect f15) (ix2 k ⟨o + (x 1).val, by have := (x 1).isLt; change _ < 128 at this; omega⟩)
      = accS (arg13.view.read (Elt Ideal) f13) (arg15.view.read (Elt Ideal) f15) (i 1) ((Rect.unit (s := S512x2048) ![0, lo] S512x128.size inb).emb x) := by
    refine Finset.sum_congr rfl fun k _ => ?_
    rw [code_at, code_read c i f13 iq (ix3 0 (x 0) k) (ix3 (i 1) (((Rect.unit (s := S512x2048) ![0, lo] S512x128.size inb).emb x) 0) k) rfl e0 rfl,
      bits_read c f15 lb ib _ (ix2 k (((Rect.unit (s := S512x2048) ![0, lo] S512x128.size inb).emb x) 1)) rfl (e1.trans (by show lo + (x 1).val = lb + (o + (x 1).val); omega))]
  unfold estCore
  rw [mul_at, sub_at, add_at, mul_at, mul_at, half_at o ho2, prod_at, row_at, row_at, col_at, col_at, col_at]
  unfold estS
  rw [← hacc, (col_read c i f14 _ 0 (k0_off11_eq i) ic0 (ix4 0 0 (x 0) (x 1)) (ix4 (i 1) 0 (((Rect.unit (s := S512x2048) ![0, lo] S512x128.size inb).emb x) 0) (lane ((Rect.unit (s := S512x2048) ![0, lo] S512x128.size inb).emb x))) rfl rfl e0 el), (col_read c i f14 _ 1 (k0_off12_eq i) ic1 (ix4 0 0 (x 0) (x 1)) (ix4 (i 1) 1 (((Rect.unit (s := S512x2048) ![0, lo] S512x128.size inb).emb x) 0) (lane ((Rect.unit (s := S512x2048) ![0, lo] S512x128.size inb).emb x))) rfl rfl e0 el), (col_read c i f14 _ 2 (k0_off13_eq i) ic2 (ix4 0 0 (x 0) (x 1)) (ix4 (i 1) 2 (((Rect.unit (s := S512x2048) ![0, lo] S512x128.size inb).emb x) 0) (lane ((Rect.unit (s := S512x2048) ![0, lo] S512x128.size inb).emb x))) rfl rfl e0 el), (row_read c f16 0 lo ir0 (ix2 0 (x 1)) (ix2 0 (((Rect.unit (s := S512x2048) ![0, lo] S512x128.size inb).emb x) 1)) rfl e1), (row_read c f16 1 lo ir1 (ix2 0 (x 1)) (ix2 1 (((Rect.unit (s := S512x2048) ![0, lo] S512x128.size inb).emb x) 1)) rfl e1)]

/-- A chunk's distance is the distance at the chunk's place. -/
theorem dist_piece (lo lb o : ℕ) (hlo : lo % 128 = 0) (hl : lo = lb + o) (ho2 : o + 128 ≤ 256) (inb iq ib ho ic0 ic1 ic2 ir0 ir1 ic3 ir2 ir3) (x : S512x128.Idx) :
    distCore (arg14.view.readAt (Elt Ideal) (Rect.unit (s := S6x4x512x128) (k0_off10 i) S1x1x512x128.size ic3).toLoadRect f14) (arg16.view.readAt (Elt Ideal) (Rect.unit (s := S8x2048) ![2, lo] S1x128.size ir2).toLoadRect f16) (arg16.view.readAt (Elt Ideal) (Rect.unit (s := S8x2048) ![3, lo] S1x128.size ir3).toLoadRect f16) (estCore (arg13.view.readAt (Elt Ideal) (Rect.unit (s := S6x512x384) (k0_off9 i) S1x512x384.size iq).toLoadRect f13) (arg15.view.readAt (Elt Ideal) (Rect.unit (s := S384x2048) ![0, lb] S384x256.size ib).toLoadRect f15) o ho (arg14.view.readAt (Elt Ideal) (Rect.unit (s := S6x4x512x128) (k0_off11 i) S1x1x512x128.size ic0).toLoadRect f14) (arg14.view.readAt (Elt Ideal) (Rect.unit (s := S6x4x512x128) (k0_off12 i) S1x1x512x128.size ic1).toLoadRect f14) (arg14.view.readAt (Elt Ideal) (Rect.unit (s := S6x4x512x128) (k0_off13 i) S1x1x512x128.size ic2).toLoadRect f14) (arg16.view.readAt (Elt Ideal) (Rect.unit (s := S8x2048) ![0, lo] S1x128.size ir0).toLoadRect f16) (arg16.view.readAt (Elt Ideal) (Rect.unit (s := S8x2048) ![1, lo] S1x128.size ir1).toLoadRect f16)) x = distS (arg13.view.read (Elt Ideal) f13) (arg14.view.read (Elt Ideal) f14) (arg15.view.read (Elt Ideal) f15) (arg16.view.read (Elt Ideal) f16) (i 1) ((Rect.unit (s := S512x2048) ![0, lo] S512x128.size inb).emb x) := by
  obtain ⟨e0, e1⟩ := chunk_at lo inb x
  have el : (lane ((Rect.unit (s := S512x2048) ![0, lo] S512x128.size inb).emb x)).val = (x 1).val := by
    have := (x 1).isLt; change _ < 128 at this
    show (((Rect.unit (s := S512x2048) ![0, lo] S512x128.size inb).emb x) 1).val % 128 = _
    rw [e1]; omega
  unfold distCore
  rw [sub_at, add_at, mul_at, mul_at, mul_at, est_piece c i f13 f14 f15 f16 lo lb o hlo hl ho2 inb, row_at, row_at, col_at]
  unfold distS
  rw [(col_read c i f14 _ 3 (k0_off10_eq i) ic3 (ix4 0 0 (x 0) (x 1)) (ix4 (i 1) 3 (((Rect.unit (s := S512x2048) ![0, lo] S512x128.size inb).emb x) 0) (lane ((Rect.unit (s := S512x2048) ![0, lo] S512x128.size inb).emb x))) rfl rfl e0 el), (row_read c f16 2 lo ir2 (ix2 0 (x 1)) (ix2 2 (((Rect.unit (s := S512x2048) ![0, lo] S512x128.size inb).emb x) 1)) rfl e1), (row_read c f16 3 lo ir3 (ix2 0 (x 1)) (ix2 3 (((Rect.unit (s := S512x2048) ![0, lo] S512x128.size inb).emb x) 1)) rfl e1)]

/-- A chunk's bound is the bound at the chunk's place. -/
theorem bound_piece (lo : ℕ) (hlo : lo % 128 = 0) (inb ic3 ir4) (x : S512x128.Idx) :
    boundCore (arg14.view.readAt (Elt Ideal) (Rect.unit (s := S6x4x512x128) (k0_off10 i) S1x1x512x128.size ic3).toLoadRect f14) (arg16.view.readAt (Elt Ideal) (Rect.unit (s := S8x2048) ![4, lo] S1x128.size ir4).toLoadRect f16) x = boundS (arg14.view.read (Elt Ideal) f14) (arg16.view.read (Elt Ideal) f16) (i 1) ((Rect.unit (s := S512x2048) ![0, lo] S512x128.size inb).emb x) := by
  obtain ⟨e0, e1⟩ := chunk_at lo inb x
  have el : (lane ((Rect.unit (s := S512x2048) ![0, lo] S512x128.size inb).emb x)).val = (x 1).val := by
    have := (x 1).isLt; change _ < 128 at this
    show (((Rect.unit (s := S512x2048) ![0, lo] S512x128.size inb).emb x) 1).val % 128 = _
    rw [e1]; omega
  unfold boundCore
  rw [mul_at, row_at, col_at]
  unfold boundS
  rw [(col_read c i f14 _ 3 (k0_off10_eq i) ic3 (ix4 0 0 (x 0) (x 1)) (ix4 (i 1) 3 (((Rect.unit (s := S512x2048) ![0, lo] S512x128.size inb).emb x) 0) (lane ((Rect.unit (s := S512x2048) ![0, lo] S512x128.size inb).emb x))) rfl rfl e0 el), (row_read c f16 4 lo ir4 (ix2 0 (x 1)) (ix2 4 (((Rect.unit (s := S512x2048) ![0, lo] S512x128.size inb).emb x) 1)) rfl e1)]

end Pieces

end Cert.Proof.KernelIdeal
-- ==== Proof.ValA.lean ====
module

public import proofs.«01_k».proof.Proof.RunA
public import proofs.«01_k».proof.Proof.ValC
public import Idealize.ShloMosaic.Lib.Pipeline.Value
public import Idealize.ShloMosaic.Lib.BitcastPair
public import Idealize.ShloMosaic.Lib.ValueIdxCore
public import Idealize.ShloMosaic.Lib.Writes

/-! What the unpacking of a database block leaves in the bits and in the row table, over the extended reals. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

open Idealize.ShloMosaic.ValueIdx

/-- The two bits of a word that row `r` of its sixteen rows keeps. -/
theorem half_word (x : BitVec 32) (r hi : ℕ) (hr : r < 16) (hhi : hi < 2) :
    (IntOp.andi (IntOp.shli .vector (IntOp.shrui .vector x (BitVec.ofNat 32 r)) 14#32) 1073758208#32).extractLsb' (16 * hi) 16
      = if x.getLsbD (r + 16 * hi) then 16384#16 else 0#16 := by
  have e1 : IntOp.shrui .vector x (BitVec.ofNat 32 r) = x >>> r := by
    have h : (BitVec.ofNat 32 r).toNat = r := by rw [BitVec.toNat_ofNat]; omega
    unfold IntOp.shrui
    rw [if_pos (by rw [h]; omega)]
    show x >>> (BitVec.ofNat 32 r).toNat = _
    rw [h]
  have e2 : ∀ z : BitVec 32, IntOp.shli .vector z 14#32 = z <<< 14 := fun z => rfl
  rw [e1, e2]
  show ((x >>> r <<< 14) &&& 1073758208#32).extractLsb' (16 * hi) 16 = _
  apply BitVec.eq_of_getLsbD_eq
  intro i hi'
  have hc : hi = 0 ∨ hi = 1 := by omega
  have key : ((x >>> r <<< 14) &&& 1073758208#32).getLsbD (16 * hi + i) = (decide (i = 14) && x.getLsbD (r + 16 * hi)) := by
    rw [BitVec.getLsbD_and, BitVec.getLsbD_shiftLeft, BitVec.getLsbD_ushiftRight]
    rcases hc with rfl | rfl
    · interval_cases i <;> simp
    · interval_cases i <;> simp
  rw [BitVec.getLsbD_extractLsb', key]
  by_cases hb : x.getLsbD (r + 16 * hi)
  · rw [hb, if_pos rfl]; interval_cases i <;> simp
  · rw [Bool.not_eq_true] at hb; rw [hb]; simp

/-- The bits of the codes: two for a set bit, zero for a clear one; rows of a word's bits alternate between its halves. -/
def bitS (A : S12x2048.Idx → BitVec 32) (y : S384x2048.Idx) : EReal :=
  if (A (ix2 ⟨(y 0).val / 32, by have := (y 0).isLt; change _ < 384 at this; show _ < 12; omega⟩ (y 1))).getLsbD
      ((y 0).val % 32 / 2 + 16 * ((y 0).val % 2)) then 2 else 0

theorem two_bf16 : Ideal.ofBits .bf16 16384#16 = (2 : EReal) := by
  simp [Ideal.ofBits, Ideal.ieee]
  rw [← EReal.coe_mul, show ((128 : ℝ) * (2 ^ 6)⁻¹) = 2 by norm_num]
  rfl
theorem zero_bf16 : Ideal.ofBits .bf16 0#16 = (0 : EReal) := by
  simp [Ideal.ofBits, Ideal.ieee]

/-- One word's bits as the kernel computes them. -/
def unpackCore (A : IVec S12x2048 32) (w : ℕ) (hw : S12x2048.Slices ![w, 0] S1x2048) : FVec Ideal S32x2048 .bf16 :=
  shapeCast S32x2048 (bitcastToFloat (F := Ideal) .bf16 (bitcast S32x2048 16
    (andi (shli (shrui (broadcastTo S16x2048 (shapeCast S1x2048 (extractStridedSlice S1x2048 ![w, 0] (shapeCast S12x2048 A shapeCasts_S12x2048_S12x2048) hw) shapeCasts_S1x2048_S1x2048) broadcasts_S1x2048_S16x2048)
      (iota .tc S16x2048 32 [0] iota_S16x2048_d0_w32)) (broadcast S16x2048 14#32)) (broadcast S16x2048 1073758208#32)) bitcasts_S16x2048_w32_S32x2048_w16)) shapeCasts_S32x2048_S32x2048

theorem unpack_at (A : IVec S12x2048 32) (w : ℕ) (h12 : w < 12) (hw) (x : S32x2048.Idx) :
    unpackCore A w hw x = if (A (ix2 ⟨w, h12⟩ (x 1))).getLsbD ((x 0).val / 2 + 16 * ((x 0).val % 2)) then (2 : EReal) else 0 := by
  have hx : (x 0).val < 32 := (x 0).isLt
  unfold unpackCore
  rw [shapeCast_self]
  show Ideal.ofBits .bf16 (bitcast S32x2048 16 _ bitcasts_S16x2048_w32_S32x2048_w16 x) = _
  rw [bitcast_32_16]
  have hrow : S32x2048.row x = (x 0).val := by
    simp only [Shape.row]; rfl
  generalize hj : (Shape.Bitcasts.srcIdx bitcasts_S16x2048_w32_S32x2048_w16 x (S32x2048.row x / 2) _ : S16x2048.Idx) = j
  have j0 : (j 0).val = (x 0).val / 2 := by
    rw [← hj, ← hrow]; rfl
  have j1 : (j 1).val = (x 1).val := by
    rw [← hj]; rfl
  show Ideal.ofBits .bf16 ((IntOp.andi (IntOp.shli .vector (IntOp.shrui .vector (broadcastTo S16x2048 _ broadcasts_S1x2048_S16x2048 j) (iota .tc S16x2048 32 [0] iota_S16x2048_d0_w32 j)) 14#32) 1073758208#32).extractLsb' _ 16) = _
  have eb : (broadcastTo S16x2048 (shapeCast S1x2048 (extractStridedSlice S1x2048 ![w, 0] (shapeCast S12x2048 A shapeCasts_S12x2048_S12x2048) hw) shapeCasts_S1x2048_S1x2048) broadcasts_S1x2048_S16x2048 j)
      = A (ix2 ⟨w, h12⟩ (x 1)) := by
    refine (broadcastTo_apply _ broadcasts_S1x2048_S16x2048 j (ix2 0 (x 1)) (fun a => by
      match a with
      | ⟨0, _⟩ => rfl
      | ⟨1, _⟩ => exact j1.symm)).trans ?_
    rw [shapeCast_self, shapeCast_self]
    refine extractStridedSlice_apply _ A hw _ _ fun a => ?_
    match a with
    | ⟨0, _⟩ => rfl
    | ⟨1, _⟩ => show (x 1).val = 0 + (x 1).val; omega
  rw [eb, iota_single_apply .tc S16x2048 32 0 iota_S16x2048_d0_w32 j, j0, hrow, half_word _ _ _ (by omega) (by omega)]
  split
  · exact two_bf16
  · exact zero_bf16

/-- The number of set bits of a column's codes. -/
def popRow (A : IVec S12x2048 32) : S2048.Idx → BitVec 32 :=
  multiReductionI .add [0] S2048 (ctpop A) 0#32 reduces_S12x2048_S2048 rfl

/-- The float constants. -/
def one32 : EReal := Ideal.ofBits .f32 0x3F800000#32
def two32 : EReal := Ideal.ofBits .f32 0x40000000#32
def sd32 : EReal := Ideal.ofBits .f32 0x419CC471#32
def sdm32 : EReal := Ideal.ofBits .f32 0x419C9026#32
def eps32 : EReal := Ideal.ofBits .f32 0x3FF33333#32

/-- The row table. -/
def rowS (A : S12x2048.Idx → BitVec 32) (d o : S1x2048.Idx → EReal) (y : S8x2048.Idx) : EReal :=
  match (y 0).val with
  | 0 => (((popRow A (ix1 (y 1))).toInt : ℝ) : EReal)
  | 1 => Ideal.div one32 (o (ix2 0 (y 1)))
  | 2 => d (ix2 0 (y 1)) * d (ix2 0 (y 1))
  | 3 => two32 * d (ix2 0 (y 1))
  | _ => Ideal.div (Ideal.div (two32 * d (ix2 0 (y 1)) * Ideal.sqrt (one32 - o (ix2 0 (y 1)) * o (ix2 0 (y 1)))) (o (ix2 0 (y 1))) * eps32) sdm32

theorem pay20_at (A : IVec S12x2048 32) (x : S1x2048.Idx) :
    k0_pay20 (F := Ideal) A x = (((popRow A (ix1 (x 1))).toInt : ℝ) : EReal) := by
  have e : shapeCast S1x2048 (popRow A) shapeCasts_S2048_S1x2048 x = popRow A (ix1 (x 1)) := by
    refine shapeCast_apply _ _ x _ ?_
    rw [Shape.rowMajor_val_one, Shape.rowMajor_val_two]
    have := (x 0).isLt
    change _ < 1 at this
    show (x 1).val = (x 0).val * 2048 + (x 1).val
    omega
  unfold k0_pay20
  dsimp only
  rw [shapeCast_self]
  exact congrArg (fun z : BitVec 32 => ((z.toInt : ℝ) : EReal)) e

theorem pay21_at (v : FVec Ideal S1x2048 .f32) (x : S1x2048.Idx) : k0_pay21 (F := Ideal) v x = Ideal.div one32 (v x) := by
  unfold k0_pay21 k0_pay19
  simp only [shapeCast_self]
  rfl
theorem pay22_at (v : FVec Ideal S1x2048 .f32) (x : S1x2048.Idx) : k0_pay62 (F := Ideal) (k0_pay22 v) x = (v x * v x : EReal) := by
  unfold k0_pay62 k0_pay22 k0_pay18
  simp only [shapeCast_self]
  rfl
theorem pay63_at (v : FVec Ideal S1x2048 .f32) (x : S1x2048.Idx) : k0_pay63 (F := Ideal) (k0_pay18 v) x = (two32 * v x : EReal) := by
  unfold k0_pay63 k0_pay18
  simp only [shapeCast_self]
  rfl
theorem pay64_at (v w : FVec Ideal S1x2048 .f32) (x : S1x2048.Idx) : k0_pay64 (F := Ideal) (k0_pay18 v) (k0_pay19 w) x
    = Ideal.div (Ideal.div (two32 * v x * Ideal.sqrt (one32 - w x * w x)) (w x) * eps32) sdm32 := by
  unfold k0_pay64 k0_pay18 k0_pay19
  simp only [shapeCast_self]
  rfl

/-- A load of a whole buffer. -/
theorem whole_read {sig : RefSig} {κ : Kind} {sp : Space} {s : Shape} {e : EltTy} {Val : EltTy → Type} (v : View sig κ sp s e) (f : v.ty.Contents Val)
    (off : Fin s.rank → ℕ) (h0 : ∀ a, off a = 0) (inb) :
    v.readAt Val (Rect.unit (s := s) off s.size inb).toLoadRect f = v.read Val f := by
  funext x
  rw [View.readAt_apply]
  refine congrArg _ (funext fun a => Fin.ext ?_)
  show off a + 1 * (x a).val = _
  rw [h0 a]; omega

/-- A row of the table lies in its store. -/
theorem row_mem (k : ℕ) (inb) (y : S8x2048.Idx) :
    y ∈ (Rect.unit (s := S8x2048) ![k, 0] ![1, 2048] inb).set ↔ (y 0).val = k := by
  rw [Rect.mem_set_unit]
  constructor
  · intro hy
    obtain ⟨h1, h2⟩ := hy 0
    change k ≤ _ at h1
    change _ < k + 1 at h2
    omega
  · intro hy a
    match a with
    | ⟨0, _⟩ => exact ⟨by show k ≤ (y 0).val; omega, by show (y 0).val < k + 1; omega⟩
    | ⟨1, _⟩ => have := (y 1).isLt; exact ⟨Nat.zero_le _, by show (y 1).val < 0 + 2048; change _ < 2048 at this; omega⟩

/-- A row of the bits lies in its word's store. -/
theorem word_mem (k : ℕ) (inb) (y : S384x2048.Idx) :
    y ∈ (Rect.unit (s := S384x2048) ![k, 0] ![32, 2048] inb).set ↔ k ≤ (y 0).val ∧ (y 0).val < k + 32 := by
  rw [Rect.mem_set_unit]
  constructor
  · intro hy; exact hy 0
  · intro hy a
    match a with
    | ⟨0, _⟩ => exact hy
    | ⟨1, _⟩ => have := (y 1).isLt; exact ⟨Nat.zero_le _, by show (y 1).val < 0 + 2048; change _ < 2048 at this; omega⟩

/-- A word's bits at the word's place. -/
theorem unpack_piece (A : IVec S12x2048 32) (w k : ℕ) (h12 : w < 12) (hk : k = 32 * w) (hw) (inb : ∀ a, ![k, 0] a + (![32, 2048] : Fin 2 → ℕ) a ≤ S384x2048.size a) (x : S32x2048.Idx) :
    unpackCore A w hw x = bitS A ((Rect.unit (s := S384x2048) ![k, 0] ![32, 2048] inb).emb x) := by
  have hx : (x 0).val < 32 := (x 0).isLt
  have e0 : ((Rect.unit (s := S384x2048) ![k, 0] ![32, 2048] inb).emb x 0).val = 32 * w + (x 0).val := by
    show k + 1 * (x 0).val = _
    omega
  have e1 : (Rect.unit (s := S384x2048) ![k, 0] ![32, 2048] inb).emb x 1 = x 1 := Fin.ext (by show 0 + 1 * (x 1).val = _; omega)
  rw [unpack_at A w h12 hw x]
  unfold bitS
  have ea : (⟨((Rect.unit (s := S384x2048) ![k, 0] ![32, 2048] inb).emb x 0).val / 32, by rw [e0]; show _ < 12; omega⟩ : Fin 12) = ⟨w, h12⟩ :=
    Fin.ext (by show _ / 32 = w; rw [e0]; omega)
  have eb : ((Rect.unit (s := S384x2048) ![k, 0] ![32, 2048] inb).emb x 0).val % 32 / 2 + 16 * (((Rect.unit (s := S384x2048) ![k, 0] ![32, 2048] inb).emb x 0).val % 2)
      = (x 0).val / 2 + 16 * ((x 0).val % 2) := by rw [e0]; omega
  rw [eb]
  exact congrArg (fun j : S12x2048.Idx => if (A j).getLsbD ((x 0).val / 2 + 16 * ((x 0).val % 2)) then (2 : EReal) else 0)
    (Shape.idx_ext₂ (congrArg Fin.val ea.symm) (congrArg Fin.val e1.symm))

section Whole
variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16)

/-- The bits after the unpacking. -/
theorem runA_bits : arg15.view.read (Elt Ideal) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.1) = bitS (arg7.view.read (Elt Ideal) f7) := by
  funext y
  have h0 : (y 0).val < 384 := (y 0).isLt
  unfold runA; sl_unfold_run_names
  dsimp only
  refine View.read_writes_apply_of_pieces (Val := Elt Ideal) arg15.view _ (bitS (arg7.view.read (Elt Ideal) f7)) _ ?_ y ?_
  · have ew := whole_read (Val := Elt Ideal) arg7.view f7 ![0, 0] (fun a => by match a with | ⟨0, _⟩ => rfl | ⟨1, _⟩ => rfl) inb_S12x2048_S12x2048_0_0
    have ew' : View.readAt (Elt Ideal) arg7.view (Rect.unit (s := S12x2048) ![0, 0] ![12, 2048] inb_S12x2048_S12x2048_0_0).toLoadRect f7 = (arg7.view.read (Elt Ideal) f7) := ew
    rw [ew']
    refine List.forall_mem_cons.2 ⟨fun x => unpack_piece (arg7.view.read (Elt Ideal) f7) 11 352 (by decide) rfl slices_S12x2048_o11_0_S1x2048 inb_S384x2048_S32x2048_352_0 x, ?_⟩
    refine List.forall_mem_cons.2 ⟨fun x => unpack_piece (arg7.view.read (Elt Ideal) f7) 10 320 (by decide) rfl slices_S12x2048_o10_0_S1x2048 inb_S384x2048_S32x2048_320_0 x, ?_⟩
    refine List.forall_mem_cons.2 ⟨fun x => unpack_piece (arg7.view.read (Elt Ideal) f7) 9 288 (by decide) rfl slices_S12x2048_o9_0_S1x2048 inb_S384x2048_S32x2048_288_0 x, ?_⟩
    refine List.forall_mem_cons.2 ⟨fun x => unpack_piece (arg7.view.read (Elt Ideal) f7) 8 256 (by decide) rfl slices_S12x2048_o8_0_S1x2048 inb_S384x2048_S32x2048_256_0 x, ?_⟩
    refine List.forall_mem_cons.2 ⟨fun x => unpack_piece (arg7.view.read (Elt Ideal) f7) 7 224 (by decide) rfl slices_S12x2048_o7_0_S1x2048 inb_S384x2048_S32x2048_224_0 x, ?_⟩
    refine List.forall_mem_cons.2 ⟨fun x => unpack_piece (arg7.view.read (Elt Ideal) f7) 6 192 (by decide) rfl slices_S12x2048_o6_0_S1x2048 inb_S384x2048_S32x2048_192_0 x, ?_⟩
    refine List.forall_mem_cons.2 ⟨fun x => unpack_piece (arg7.view.read (Elt Ideal) f7) 5 160 (by decide) rfl slices_S12x2048_o5_0_S1x2048 inb_S384x2048_S32x2048_160_0 x, ?_⟩
    refine List.forall_mem_cons.2 ⟨fun x => unpack_piece (arg7.view.read (Elt Ideal) f7) 4 128 (by decide) rfl slices_S12x2048_o4_0_S1x2048 inb_S384x2048_S32x2048_128_0 x, ?_⟩
    refine List.forall_mem_cons.2 ⟨fun x => unpack_piece (arg7.view.read (Elt Ideal) f7) 3 96 (by decide) rfl slices_S12x2048_o3_0_S1x2048 inb_S384x2048_S32x2048_96_0 x, ?_⟩
    refine List.forall_mem_cons.2 ⟨fun x => unpack_piece (arg7.view.read (Elt Ideal) f7) 2 64 (by decide) rfl slices_S12x2048_o2_0_S1x2048 inb_S384x2048_S32x2048_64_0 x, ?_⟩
    refine List.forall_mem_cons.2 ⟨fun x => unpack_piece (arg7.view.read (Elt Ideal) f7) 1 32 (by decide) rfl slices_S12x2048_o1_0_S1x2048 inb_S384x2048_S32x2048_32_0 x, ?_⟩
    refine List.forall_mem_cons.2 ⟨fun x => unpack_piece (arg7.view.read (Elt Ideal) f7) 0 0 (by decide) rfl slices_S12x2048_o0_0_S1x2048 inb_S384x2048_S32x2048_0_0 x, ?_⟩
    exact fun p hp => absurd hp List.not_mem_nil
  · simp only [List.exists_mem_cons_iff, word_mem]
    simp only [List.not_mem_nil, false_and, exists_false]
    omega

/-- The row table after the unpacking. -/
theorem runA_rows (y : S8x2048.Idx) (hy : (y 0).val < 5) : arg16.view.read (Elt Ideal) ((runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.2) y = rowS (arg7.view.read (Elt Ideal) f7) (arg8.view.read (Elt Ideal) f8) (arg9.view.read (Elt Ideal) f9) y := by
  unfold runA; sl_unfold_run_names
  dsimp only
  refine View.read_writes_apply_of_pieces (Val := Elt Ideal) arg16.view _ (rowS (arg7.view.read (Elt Ideal) f7) (arg8.view.read (Elt Ideal) f8) (arg9.view.read (Elt Ideal) f9)) _ ?_ y ?_
  · have ew7 : View.readAt (Elt Ideal) arg7.view (Rect.unit (s := S12x2048) ![0, 0] ![12, 2048] inb_S12x2048_S12x2048_0_0).toLoadRect f7 = (arg7.view.read (Elt Ideal) f7) :=
      whole_read (Val := Elt Ideal) arg7.view f7 ![0, 0] (fun a => by match a with | ⟨0, _⟩ => rfl | ⟨1, _⟩ => rfl) inb_S12x2048_S12x2048_0_0
    have ew8 : View.readAt (Elt Ideal) arg8.view (Rect.unit (s := S1x2048) ![0, 0] ![1, 2048] inb_S1x2048_S1x2048_0_0).toLoadRect f8 = (arg8.view.read (Elt Ideal) f8) :=
      whole_read (Val := Elt Ideal) arg8.view f8 ![0, 0] (fun a => by match a with | ⟨0, _⟩ => rfl | ⟨1, _⟩ => rfl) inb_S1x2048_S1x2048_0_0
    have ew9 : View.readAt (Elt Ideal) arg9.view (Rect.unit (s := S1x2048) ![0, 0] ![1, 2048] inb_S1x2048_S1x2048_0_0).toLoadRect f9 = (arg9.view.read (Elt Ideal) f9) :=
      whole_read (Val := Elt Ideal) arg9.view f9 ![0, 0] (fun a => by match a with | ⟨0, _⟩ => rfl | ⟨1, _⟩ => rfl) inb_S1x2048_S1x2048_0_0
    have e0 : ∀ (k : ℕ) (inb : ∀ a, ![k, 0] a + (![1, 2048] : Fin 2 → ℕ) a ≤ S8x2048.size a) (x : S1x2048.Idx), ((Rect.unit (s := S8x2048) ![k, 0] ![1, 2048] inb).emb x 0).val = k := by
      intro k inb x
      have := (x 0).isLt
      change _ < 1 at this
      show k + 1 * (x 0).val = _
      omega
    have e1 : ∀ (k : ℕ) (inb : ∀ a, ![k, 0] a + (![1, 2048] : Fin 2 → ℕ) a ≤ S8x2048.size a) (x : S1x2048.Idx), (Rect.unit (s := S8x2048) ![k, 0] ![1, 2048] inb).emb x 1 = x 1 := by
      intro k inb x
      exact Fin.ext (by show 0 + 1 * (x 1).val = _; omega)
    have ex : ∀ x : S1x2048.Idx, (ix2 0 (x 1) : S1x2048.Idx) = x := fun x => Shape.idx_ext₂ (by have := (x 0).isLt; change _ < 1 at this; show 0 = (x 0).val; omega) rfl
    rw [ew7, ew8, ew9]
    refine List.forall_mem_cons.2 ⟨fun x => ?_, List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩⟩
    · refine (pay64_at (arg8.view.read (Elt Ideal) f8) (arg9.view.read (Elt Ideal) f9) x).trans ?_
      dsimp only [rowS]
      rw [e0 4, e1 4, ex x]; rfl
    · refine (pay63_at (arg8.view.read (Elt Ideal) f8) x).trans ?_
      dsimp only [rowS]
      rw [e0 3, e1 3, ex x]; rfl
    · refine (pay22_at (arg8.view.read (Elt Ideal) f8) x).trans ?_
      dsimp only [rowS]
      rw [e0 2, e1 2, ex x]; rfl
    · refine (pay21_at (arg9.view.read (Elt Ideal) f9) x).trans ?_
      dsimp only [rowS]
      rw [e0 1, e1 1, ex x]; rfl
    · refine (congrFun (congrArg (k0_pay20 (F := Ideal)) (shapeCast_self (arg7.view.read (Elt Ideal) f7) shapeCasts_S12x2048_S12x2048)) x).trans ((pay20_at (arg7.view.read (Elt Ideal) f7) x).trans ?_)
      dsimp only [rowS]
      rw [e0 0, e1 0]; rfl
  · simp only [List.exists_mem_cons_iff, row_mem]
    simp only [List.not_mem_nil, false_and, exists_false]
    omega

end Whole

end Cert.Proof.KernelIdeal
-- ==== Proof.ValB.lean ====
module

public import proofs.«01_k».proof.Proof.RunB
public import proofs.«01_k».proof.Proof.ValA
public import Idealize.ShloMosaic.Lib.Pipeline.Value
public import Idealize.ShloMosaic.Lib.ValueIdxCore
public import Idealize.ShloMosaic.Lib.Writes

/-! What the preparation of a query block leaves in the codes and in the column table, over the extended reals. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

open Idealize.ShloMosaic.ValueIdx

/-- The place of a code's bit in its word. -/
def place (k : ℕ) : ℕ := k % 32 / 2 + 16 * (k % 2)

/-- The kernel's shift amounts. -/
theorem shift_word : ∀ r : Fin 32,
    IntOp.addi (IntOp.shrsi .vector (BitVec.ofNat 32 r.val) 1#32) (IntOp.muli (IntOp.andi (BitVec.ofNat 32 r.val) 1#32) 16#32)
      = BitVec.ofNat 32 (place r.val) := by decide +kernel

/-- One bit of a word, shifted and masked out. -/
theorem one_bit (x : BitVec 32) (n : ℕ) (hn : n < 32) :
    IntOp.andi (IntOp.shrui .vector x (BitVec.ofNat 32 n)) 1#32 = if x.getLsbD n then 1#32 else 0#32 := by
  have h : (BitVec.ofNat 32 n).toNat = n := by rw [BitVec.toNat_ofNat]; omega
  have e1 : IntOp.shrui .vector x (BitVec.ofNat 32 n) = x >>> n := by
    unfold IntOp.shrui
    rw [if_pos (by rw [h]; omega)]
    show x >>> (BitVec.ofNat 32 n).toNat = _
    rw [h]
  rw [e1]
  show (x >>> n) &&& 1#32 = _
  apply BitVec.eq_of_getLsbD_eq
  intro i hi
  rw [BitVec.getLsbD_and, BitVec.getLsbD_ushiftRight]
  by_cases h0 : i = 0
  · subst h0
    by_cases hb : x.getLsbD n
    · rw [if_pos hb]; simp [hb]
    · rw [if_neg hb]; simp [hb]
  · have : (1#32).getLsbD i = false := by
      rw [BitVec.getLsbD_one]; simp [h0]
    rw [this, Bool.and_false]
    split
    · exact this.symm
    · simp

/-- Four bits put together. -/
def fourWord (b0 b1 b2 b3 : BitVec 32) : BitVec 32 :=
  IntOp.ori (IntOp.ori (IntOp.ori (IntOp.ori 0#32 (IntOp.shli .vector b0 0#32)) (IntOp.shli .vector b1 1#32)) (IntOp.shli .vector b2 2#32)) (IntOp.shli .vector b3 3#32)

/-- A bit as a number. -/
def bitN (b : Bool) : ℕ := if b then 1 else 0

theorem fourWord_toInt : ∀ b0 b1 b2 b3 : Bool,
    (fourWord (if b0 then 1#32 else 0#32) (if b1 then 1#32 else 0#32) (if b2 then 1#32 else 0#32) (if b3 then 1#32 else 0#32)).toInt
      = ((bitN b0 + 2 * bitN b1 + 4 * bitN b2 + 8 * bitN b3 : ℕ) : ℤ) := by decide +kernel

/-- The four-bit code of a query at a dimension. -/
def codeN (P : S12x4x512.Idx → BitVec 32) (row : Fin 512) (k : Fin 384) : ℕ :=
  let w : Fin 12 := ⟨k.val / 32, by have := k.isLt; omega⟩
  bitN ((P (ix3 w 0 row)).getLsbD (place k.val)) + 2 * bitN ((P (ix3 w 1 row)).getLsbD (place k.val))
    + 4 * bitN ((P (ix3 w 2 row)).getLsbD (place k.val)) + 8 * bitN ((P (ix3 w 3 row)).getLsbD (place k.val))

/-- One plane's bits as the kernel computes them. -/
def planeBits (p : Vec Ideal S1x1x512 .i32) : IVec S32x512 32 :=
  andi (shrui (broadcastTo S32x512 (shapeCast S1x512 (shapeCast S1x512 p shapeCasts_S1x1x512_S1x512) shapeCasts_S1x512_S1x512) broadcasts_S1x512_S32x512)
    (addi (shrsi (iota .tc S32x512 32 [0] iota_S32x512_d0_w32) (broadcast S32x512 1#32))
      (muli (andi (iota .tc S32x512 32 [0] iota_S32x512_d0_w32) (broadcast S32x512 1#32)) (broadcast S32x512 16#32)))) (broadcast S32x512 1#32)

theorem planeBits_at (p : Vec Ideal S1x1x512 .i32) (z : S32x512.Idx) :
    planeBits p z = if (p (ix3 0 0 (z 1)) : BitVec 32).getLsbD (place (z 0).val) then 1#32 else 0#32 := by
  have hz : (z 0).val < 32 := (z 0).isLt
  have e : broadcastTo S32x512 (shapeCast S1x512 (shapeCast S1x512 p shapeCasts_S1x1x512_S1x512) shapeCasts_S1x512_S1x512) broadcasts_S1x512_S32x512 z
      = p (ix3 0 0 (z 1)) := by
    refine (broadcastTo_apply _ broadcasts_S1x512_S32x512 z (ix2 0 (z 1)) (fun a => by
      match a with
      | ⟨0, _⟩ => rfl
      | ⟨1, _⟩ => rfl)).trans ?_
    rw [shapeCast_self]
    refine shapeCast_apply p _ _ _ ?_
    rw [Shape.rowMajor_val_three, Shape.rowMajor_val_two]
    show ((0 * 1) + 0) * 512 + (z 1).val = 0 * 512 + (z 1).val
    omega
  have hs := shift_word ⟨(z 0).val, hz⟩
  unfold planeBits
  show IntOp.andi (IntOp.shrui .vector (broadcastTo S32x512 (shapeCast S1x512 (shapeCast S1x512 p shapeCasts_S1x1x512_S1x512) shapeCasts_S1x512_S1x512) broadcasts_S1x512_S32x512 z)
    (IntOp.addi (IntOp.shrsi .vector (iota .tc S32x512 32 [0] iota_S32x512_d0_w32 z) 1#32) (IntOp.muli (IntOp.andi (iota .tc S32x512 32 [0] iota_S32x512_d0_w32 z) 1#32) 16#32))) 1#32 = _
  rw [e, iota_single_apply .tc S32x512 32 0 iota_S32x512_d0_w32 z, hs, one_bit _ _ (by show place (z 0).val < 32; unfold place; omega)]

/-- One word's codes as the kernel computes them. -/
def planeCore (p0 p1 p2 p3 : Vec Ideal S1x1x512 .i32) : FVec Ideal S32x512 .f32 :=
  sitofp (F := Ideal) .f32 (ori (ori (ori (ori (broadcast S32x512 0#32) (shli (planeBits p0) (broadcast S32x512 0#32)))
    (shli (planeBits p1) (broadcast S32x512 1#32))) (shli (planeBits p2) (broadcast S32x512 2#32))) (shli (planeBits p3) (broadcast S32x512 3#32)))

theorem planeCore_at (p0 p1 p2 p3 : Vec Ideal S1x1x512 .i32) (z : S32x512.Idx) :
    planeCore p0 p1 p2 p3 z
      = (((bitN ((p0 (ix3 0 0 (z 1)) : BitVec 32).getLsbD (place (z 0).val)) + 2 * bitN ((p1 (ix3 0 0 (z 1)) : BitVec 32).getLsbD (place (z 0).val))
        + 4 * bitN ((p2 (ix3 0 0 (z 1)) : BitVec 32).getLsbD (place (z 0).val)) + 8 * bitN ((p3 (ix3 0 0 (z 1)) : BitVec 32).getLsbD (place (z 0).val)) : ℕ) : ℝ) : EReal) := by
  show (((fourWord (planeBits p0 z) (planeBits p1 z) (planeBits p2 z) (planeBits p3 z)).toInt : ℝ) : EReal) = _
  rw [planeBits_at, planeBits_at, planeBits_at, planeBits_at, fourWord_toInt]
  push_cast
  rfl

/-- Four words' codes as the kernel lays them out. -/
def codesCore (a : Fin 4 → FVec Ideal S32x512 .f32) : FVec Ideal S1x512x128 .bf16 :=
  shapeCast S1x512x128 (shapeCast S512x128 (truncf (F := Ideal) .bf16 (transpose S512x128 [1, 0]
    (concatenate S128x512 0 [⟨S32x512, a 0⟩, ⟨S32x512, a 1⟩, ⟨S32x512, a 2⟩, ⟨S32x512, a 3⟩] concatenates_S32x512_S32x512_S32x512_S32x512_S128x512_d0)
    transposes_S128x512_p1_0_S512x128) bitsLt_bf16_f32) shapeCasts_S512x128_S512x128) shapeCasts_S512x128_S1x512x128

theorem codesCore_at (a : Fin 4 → FVec Ideal S32x512 .f32) (x : S1x512x128.Idx) (hx : (x 2).val < 128) :
    codesCore a x = a ⟨(x 2).val / 32, by omega⟩ (ix2 ⟨(x 2).val % 32, Nat.mod_lt _ (by decide)⟩ (x 1)) := by
  unfold codesCore
  rw [shapeCast_self]
  refine (shapeCast_apply _ shapeCasts_S512x128_S1x512x128 x (ix2 (x 1) (x 2)) ?_).trans ?_
  · rw [Shape.rowMajor_val_three, Shape.rowMajor_val_two]
    have := (x 0).isLt
    change _ < 1 at this
    show (x 1).val * 128 + (x 2).val = ((x 0).val * 512 + (x 1).val) * 128 + (x 2).val
    omega
  show transpose S512x128 [1, 0] (concatenate S128x512 0 [⟨S32x512, a 0⟩, ⟨S32x512, a 1⟩, ⟨S32x512, a 2⟩, ⟨S32x512, a 3⟩] concatenates_S32x512_S32x512_S32x512_S32x512_S128x512_d0)
    transposes_S128x512_p1_0_S512x128 (ix2 (x 1) (x 2)) = _
  refine (transpose_apply _ _ transposes_S128x512_p1_0_S512x128 _ (ix2 (x 2) (x 1)) (fun b => ?_)).trans ?_
  · match b with
    | ⟨0, _⟩ => rfl
    | ⟨1, _⟩ => rfl
  refine concatenate_ofFn_apply (t := S128x512) (s₁ := S32x512) 0 a concatenates_S32x512_S32x512_S32x512_S32x512_S128x512_d0 rfl 32 rfl (ix2 (x 2) (x 1)) ⟨(x 2).val / 32, by omega⟩ rfl _ rfl ?_
  intro b hb
  match b with
  | ⟨0, _⟩ => exact absurd rfl hb
  | ⟨1, _⟩ => rfl

/-- The column table of a query block. -/
def colS (qd qv nq sq : S1x512.Idx → EReal) (k : ℕ) (row : Fin 512) : EReal :=
  match k with
  | 0 => Ideal.div (qd (ix2 0 row)) sd32
  | 1 => Ideal.div (two32 * qv (ix2 0 row)) sd32
  | 2 => Ideal.div (qd (ix2 0 row)) sd32 * sq (ix2 0 row) + sd32 * qv (ix2 0 row)
  | _ => nq (ix2 0 row)

/-- A row of a query block, spread over a chunk's columns. -/
theorem spread_at (v : FVec Ideal S1x512 .f32) (x : S1x1x512x128.Idx) :
    shapeCast S1x1x512x128 (transpose S512x128 [1, 0] (broadcastTo S128x512 (shapeCast S1x512 v shapeCasts_S1x512_S1x512) broadcasts_S1x512_S128x512) transposes_S128x512_p1_0_S512x128)
      shapeCasts_S512x128_S1x1x512x128 x = v (ix2 0 (x 2)) := by
  rw [shapeCast_self]
  refine (shapeCast_apply _ shapeCasts_S512x128_S1x1x512x128 x (ix2 (x 2) (x 3)) ?_).trans ?_
  · rw [Shape.rowMajor_val_four, Shape.rowMajor_val_two]
    have h0 := (x 0).isLt
    change _ < 1 at h0
    have h1 := (x 1).isLt
    change _ < 1 at h1
    show (x 2).val * 128 + (x 3).val = (((x 0).val * 1 + (x 1).val) * 512 + (x 2).val) * 128 + (x 3).val
    omega
  refine (transpose_apply _ _ transposes_S128x512_p1_0_S512x128 _ (ix2 (x 3) (x 2)) (fun b => ?_)).trans ?_
  · match b with
    | ⟨0, _⟩ => rfl
    | ⟨1, _⟩ => rfl
  refine broadcastTo_apply _ broadcasts_S1x512_S128x512 _ _ (fun a => ?_)
  match a with
  | ⟨0, _⟩ => rfl
  | ⟨1, _⟩ => rfl

theorem pay60_at (v : FVec Ideal S1x512 .f32) (x : S1x1x512x128.Idx) :
    k0_pay60 (F := Ideal) (Ideal.ofBits .f32 0x419CC471#32) v x = Ideal.div (v (ix2 0 (x 2))) sd32 := by
  unfold k0_pay60 k0_pay57
  refine (spread_at _ x).trans ?_
  simp only [shapeCast_self]
  rfl
theorem pay65_at (v : FVec Ideal S1x512 .f32) (x : S1x1x512x128.Idx) :
    k0_pay65 (F := Ideal) (k0_pay61 (Ideal.ofBits .f32 0x419CC471#32) v) x = Ideal.div (two32 * v (ix2 0 (x 2))) sd32 := by
  unfold k0_pay65 k0_pay61 k0_pay58
  refine (spread_at _ x).trans ?_
  simp only [shapeCast_self]
  rfl
theorem pay66_at (v w s : FVec Ideal S1x512 .f32) (x : S1x1x512x128.Idx) :
    k0_pay66 (F := Ideal) (k0_pay57 (Ideal.ofBits .f32 0x419CC471#32) v) (k0_pay58 w) s x
      = Ideal.div (v (ix2 0 (x 2))) sd32 * s (ix2 0 (x 2)) + sd32 * w (ix2 0 (x 2)) := by
  unfold k0_pay66 k0_pay57 k0_pay58
  refine (spread_at _ x).trans ?_
  simp only [shapeCast_self]
  rfl
theorem pay67_at (v : FVec Ideal S1x512 .f32) (x : S1x1x512x128.Idx) :
    k0_pay67 (F := Ideal) (k0_pay59 v) x = v (ix2 0 (x 2)) := by
  unfold k0_pay67 k0_pay59
  refine (spread_at _ x).trans ?_
  simp only [shapeCast_self]

section Pieces
variable (c : Dev nD) (i : grid0.Coords)
variable {arg2 : Memref sig .tc .vmem S12x4x512 .i32} (f2 : Bf (F := Ideal) c arg2)

/-- A read of one plane of one word. -/
theorem plane_read (w j : ℕ) (hw : w < 12) (hj : j < 4) (inb) (row : Fin 512) :
    arg2.view.readAt (Elt Ideal) (Rect.unit (s := S12x4x512) ![w, j, 0] ![1, 1, 512] inb).toLoadRect f2 (ix3 0 0 row)
      = arg2.view.read (Elt Ideal) f2 (ix3 ⟨w, hw⟩ ⟨j, hj⟩ row) := by
  rw [View.readAt_apply]
  refine congrArg _ (funext fun a => Fin.ext ?_)
  match a with
  | ⟨0, _⟩ => show w + 1 * 0 = w; omega
  | ⟨1, _⟩ => show j + 1 * 0 = j; omega
  | ⟨2, _⟩ => show 0 + 1 * row.val = row.val; omega

/-- A slot's codes lie in the slot's three stores. -/
theorem code_mem (off : Fin 3 → ℕ) (k : ℕ) (e : off = ![(i 1).val, 0, k]) (inb) (y : S6x512x384.Idx) :
    y ∈ (Rect.unit (s := S6x512x384) off ![1, 512, 128] inb).set ↔ (y 0).val = (i 1).val ∧ k ≤ (y 2).val ∧ (y 2).val < k + 128 := by
  subst e
  rw [Rect.mem_set_unit]
  constructor
  · intro hy
    obtain ⟨h1, h2⟩ := hy 0
    change (i 1).val ≤ _ at h1
    change _ < (i 1).val + 1 at h2
    exact ⟨by omega, hy 2⟩
  · rintro ⟨h0, h2⟩ a
    match a with
    | ⟨0, _⟩ => exact ⟨by show (i 1).val ≤ (y 0).val; omega, by show (y 0).val < (i 1).val + 1; omega⟩
    | ⟨1, _⟩ => have := (y 1).isLt; exact ⟨Nat.zero_le _, by show (y 1).val < 0 + 512; change _ < 512 at this; omega⟩
    | ⟨2, _⟩ => exact h2

/-- A slot's columns lie in the slot's four stores. -/
theorem col_mem (off : Fin 4 → ℕ) (k : ℕ) (e : off = ![(i 1).val, k, 0, 0]) (inb) (y : S6x4x512x128.Idx) :
    y ∈ (Rect.unit (s := S6x4x512x128) off ![1, 1, 512, 128] inb).set ↔ (y 0).val = (i 1).val ∧ (y 1).val = k := by
  subst e
  rw [Rect.mem_set_unit]
  constructor
  · intro hy
    obtain ⟨h1, h2⟩ := hy 0
    change (i 1).val ≤ _ at h1
    change _ < (i 1).val + 1 at h2
    obtain ⟨h3, h4⟩ := hy 1
    change k ≤ _ at h3
    change _ < k + 1 at h4
    exact ⟨by omega, by omega⟩
  · rintro ⟨h0, h1⟩ a
    match a with
    | ⟨0, _⟩ => exact ⟨by show (i 1).val ≤ (y 0).val; omega, by show (y 0).val < (i 1).val + 1; omega⟩
    | ⟨1, _⟩ => exact ⟨by show k ≤ (y 1).val; omega, by show (y 1).val < k + 1; omega⟩
    | ⟨2, _⟩ => have := (y 2).isLt; exact ⟨Nat.zero_le _, by show (y 2).val < 0 + 512; change _ < 512 at this; omega⟩
    | ⟨3, _⟩ => have := (y 3).isLt; exact ⟨Nat.zero_le _, by show (y 3).val < 0 + 128; change _ < 128 at this; omega⟩

/-- Four words' codes at their place. -/
theorem code_piece (g : ℕ) (hg : g < 3) (off : Fin 3 → ℕ) (e : off = ![(i 1).val, 0, 128 * g]) (inb) (h00 h01 h02 h03 h10 h11 h12 h13 h20 h21 h22 h23 h30 h31 h32 h33) (x : S1x512x128.Idx) :
    codesCore ![planeCore (arg2.view.readAt (Elt Ideal) (Rect.unit (s := S12x4x512) ![4 * g + 0, 0, 0] ![1, 1, 512] h00).toLoadRect f2) (arg2.view.readAt (Elt Ideal) (Rect.unit (s := S12x4x512) ![4 * g + 0, 1, 0] ![1, 1, 512] h01).toLoadRect f2) (arg2.view.readAt (Elt Ideal) (Rect.unit (s := S12x4x512) ![4 * g + 0, 2, 0] ![1, 1, 512] h02).toLoadRect f2) (arg2.view.readAt (Elt Ideal) (Rect.unit (s := S12x4x512) ![4 * g + 0, 3, 0] ![1, 1, 512] h03).toLoadRect f2), planeCore (arg2.view.readAt (Elt Ideal) (Rect.unit (s := S12x4x512) ![4 * g + 1, 0, 0] ![1, 1, 512] h10).toLoadRect f2) (arg2.view.readAt (Elt Ideal) (Rect.unit (s := S12x4x512) ![4 * g + 1, 1, 0] ![1, 1, 512] h11).toLoadRect f2) (arg2.view.readAt (Elt Ideal) (Rect.unit (s := S12x4x512) ![4 * g + 1, 2, 0] ![1, 1, 512] h12).toLoadRect f2) (arg2.view.readAt (Elt Ideal) (Rect.unit (s := S12x4x512) ![4 * g + 1, 3, 0] ![1, 1, 512] h13).toLoadRect f2), planeCore (arg2.view.readAt (Elt Ideal) (Rect.unit (s := S12x4x512) ![4 * g + 2, 0, 0] ![1, 1, 512] h20).toLoadRect f2) (arg2.view.readAt (Elt Ideal) (Rect.unit (s := S12x4x512) ![4 * g + 2, 1, 0] ![1, 1, 512] h21).toLoadRect f2) (arg2.view.readAt (Elt Ideal) (Rect.unit (s := S12x4x512) ![4 * g + 2, 2, 0] ![1, 1, 512] h22).toLoadRect f2) (arg2.view.readAt (Elt Ideal) (Rect.unit (s := S12x4x512) ![4 * g + 2, 3, 0] ![1, 1, 512] h23).toLoadRect f2), planeCore (arg2.view.readAt (Elt Ideal) (Rect.unit (s := S12x4x512) ![4 * g + 3, 0, 0] ![1, 1, 512] h30).toLoadRect f2) (arg2.view.readAt (Elt Ideal) (Rect.unit (s := S12x4x512) ![4 * g + 3, 1, 0] ![1, 1, 512] h31).toLoadRect f2) (arg2.view.readAt (Elt Ideal) (Rect.unit (s := S12x4x512) ![4 * g + 3, 2, 0] ![1, 1, 512] h32).toLoadRect f2) (arg2.view.readAt (Elt Ideal) (Rect.unit (s := S12x4x512) ![4 * g + 3, 3, 0] ![1, 1, 512] h33).toLoadRect f2)] x
      = (fun y : S6x512x384.Idx => (((codeN (arg2.view.read (Elt Ideal) f2) (y 1) (y 2) : ℕ) : ℝ) : EReal)) ((Rect.unit (s := S6x512x384) off ![1, 512, 128] inb).emb x) := by
  subst e
  have hx : (x 2).val < 128 := (x 2).isLt
  rw [codesCore_at _ x hx]
  have e1 : (Rect.unit (s := S6x512x384) ![(i 1).val, 0, 128 * g] ![1, 512, 128] inb).emb x 1 = x 1 := Fin.ext (by show 0 + 1 * (x 1).val = _; omega)
  have e2 : (Rect.unit (s := S6x512x384) ![(i 1).val, 0, 128 * g] ![1, 512, 128] inb).emb x 2 = (⟨128 * g + (x 2).val, by omega⟩ : Fin 384) :=
    Fin.ext (by show 128 * g + 1 * (x 2).val = 128 * g + (x 2).val; omega)
  dsimp only
  rw [e1, e2]
  have hp : place (128 * g + (x 2).val) = place ((x 2).val % 32) := by unfold place; omega
  have key : ∀ w : Fin 4, (x 2).val / 32 = w.val →
      ((![planeCore (arg2.view.readAt (Elt Ideal) (Rect.unit (s := S12x4x512) ![4 * g + 0, 0, 0] ![1, 1, 512] h00).toLoadRect f2) (arg2.view.readAt (Elt Ideal) (Rect.unit (s := S12x4x512) ![4 * g + 0, 1, 0] ![1, 1, 512] h01).toLoadRect f2) (arg2.view.readAt (Elt Ideal) (Rect.unit (s := S12x4x512) ![4 * g + 0, 2, 0] ![1, 1, 512] h02).toLoadRect f2) (arg2.view.readAt (Elt Ideal) (Rect.unit (s := S12x4x512) ![4 * g + 0, 3, 0] ![1, 1, 512] h03).toLoadRect f2), planeCore (arg2.view.readAt (Elt Ideal) (Rect.unit (s := S12x4x512) ![4 * g + 1, 0, 0] ![1, 1, 512] h10).toLoadRect f2) (arg2.view.readAt (Elt Ideal) (Rect.unit (s := S12x4x512) ![4 * g + 1, 1, 0] ![1, 1, 512] h11).toLoadRect f2) (arg2.view.readAt (Elt Ideal) (Rect.unit (s := S12x4x512) ![4 * g + 1, 2, 0] ![1, 1, 512] h12).toLoadRect f2) (arg2.view.readAt (Elt Ideal) (Rect.unit (s := S12x4x512) ![4 * g + 1, 3, 0] ![1, 1, 512] h13).toLoadRect f2), planeCore (arg2.view.readAt (Elt Ideal) (Rect.unit (s := S12x4x512) ![4 * g + 2, 0, 0] ![1, 1, 512] h20).toLoadRect f2) (arg2.view.readAt (Elt Ideal) (Rect.unit (s := S12x4x512) ![4 * g + 2, 1, 0] ![1, 1, 512] h21).toLoadRect f2) (arg2.view.readAt (Elt Ideal) (Rect.unit (s := S12x4x512) ![4 * g + 2, 2, 0] ![1, 1, 512] h22).toLoadRect f2) (arg2.view.readAt (Elt Ideal) (Rect.unit (s := S12x4x512) ![4 * g + 2, 3, 0] ![1, 1, 512] h23).toLoadRect f2), planeCore (arg2.view.readAt (Elt Ideal) (Rect.unit (s := S12x4x512) ![4 * g + 3, 0, 0] ![1, 1, 512] h30).toLoadRect f2) (arg2.view.readAt (Elt Ideal) (Rect.unit (s := S12x4x512) ![4 * g + 3, 1, 0] ![1, 1, 512] h31).toLoadRect f2) (arg2.view.readAt (Elt Ideal) (Rect.unit (s := S12x4x512) ![4 * g + 3, 2, 0] ![1, 1, 512] h32).toLoadRect f2) (arg2.view.readAt (Elt Ideal) (Rect.unit (s := S12x4x512) ![4 * g + 3, 3, 0] ![1, 1, 512] h33).toLoadRect f2)] : Fin 4 → FVec Ideal S32x512 .f32) w (ix2 ⟨(x 2).val % 32, Nat.mod_lt _ (by decide)⟩ (x 1)) : EReal)
        = (((codeN (arg2.view.read (Elt Ideal) f2) (x 1) ⟨128 * g + (x 2).val, by omega⟩ : ℕ) : ℝ) : EReal) := by
    intro w hw
    have hq : (128 * g + (x 2).val) / 32 = 4 * g + w.val := by omega
    unfold codeN
    dsimp only
    rw [hp]
    simp only [hq]
    match w with
    | ⟨0, _⟩ =>
      refine (planeCore_at _ _ _ _ _).trans ?_
      rw [show (ix2 (n0 := 32) (n1 := 512) ⟨(x 2).val % 32, Nat.mod_lt _ (by decide)⟩ (x 1) 1) = x 1 from rfl, plane_read c f2 (4 * g + 0) 0 (by omega) (by omega) h00 (x 1), plane_read c f2 (4 * g + 0) 1 (by omega) (by omega) h01 (x 1), plane_read c f2 (4 * g + 0) 2 (by omega) (by omega) h02 (x 1), plane_read c f2 (4 * g + 0) 3 (by omega) (by omega) h03 (x 1)]
      rfl
    | ⟨1, _⟩ =>
      refine (planeCore_at _ _ _ _ _).trans ?_
      rw [show (ix2 (n0 := 32) (n1 := 512) ⟨(x 2).val % 32, Nat.mod_lt _ (by decide)⟩ (x 1) 1) = x 1 from rfl, plane_read c f2 (4 * g + 1) 0 (by omega) (by omega) h10 (x 1), plane_read c f2 (4 * g + 1) 1 (by omega) (by omega) h11 (x 1), plane_read c f2 (4 * g + 1) 2 (by omega) (by omega) h12 (x 1), plane_read c f2 (4 * g + 1) 3 (by omega) (by omega) h13 (x 1)]
      rfl
    | ⟨2, _⟩ =>
      refine (planeCore_at _ _ _ _ _).trans ?_
      rw [show (ix2 (n0 := 32) (n1 := 512) ⟨(x 2).val % 32, Nat.mod_lt _ (by decide)⟩ (x 1) 1) = x 1 from rfl, plane_read c f2 (4 * g + 2) 0 (by omega) (by omega) h20 (x 1), plane_read c f2 (4 * g + 2) 1 (by omega) (by omega) h21 (x 1), plane_read c f2 (4 * g + 2) 2 (by omega) (by omega) h22 (x 1), plane_read c f2 (4 * g + 2) 3 (by omega) (by omega) h23 (x 1)]
      rfl
    | ⟨3, _⟩ =>
      refine (planeCore_at _ _ _ _ _).trans ?_
      rw [show (ix2 (n0 := 32) (n1 := 512) ⟨(x 2).val % 32, Nat.mod_lt _ (by decide)⟩ (x 1) 1) = x 1 from rfl, plane_read c f2 (4 * g + 3) 0 (by omega) (by omega) h30 (x 1), plane_read c f2 (4 * g + 3) 1 (by omega) (by omega) h31 (x 1), plane_read c f2 (4 * g + 3) 2 (by omega) (by omega) h32 (x 1), plane_read c f2 (4 * g + 3) 3 (by omega) (by omega) h33 (x 1)]
      rfl
  exact key ⟨(x 2).val / 32, by omega⟩ rfl

end Pieces

section Whole
variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16)

/-- The codes after the preparation. -/
theorem runB_codes (h2 : k0_cond2 i = 1#1) (y : S6x512x384.Idx) : arg13.view.read (Elt Ideal) ((runB (F := Ideal) c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.1) y
    = if (y 0).val = (i 1).val then (((codeN (arg2.view.read (Elt Ideal) f2) (y 1) (y 2) : ℕ) : ℝ) : EReal) else (arg13.view.read (Elt Ideal) f13) y := by
  have hy2 : (y 2).val < 384 := (y 2).isLt
  unfold runB; sl_unfold_run_names
  dsimp only
  by_cases hy : (y 0).val = (i 1).val
  · rw [if_pos hy]
    refine View.read_writes_apply_of_pieces (Val := Elt Ideal) arg13.view _ (fun y : S6x512x384.Idx => (((codeN (arg2.view.read (Elt Ideal) f2) (y 1) (y 2) : ℕ) : ℝ) : EReal)) _ ?_ y ?_
    · refine List.forall_mem_cons.2 ⟨fun x => code_piece c i f2 2 (by decide) (k0_off4 i) (k0_off4_eq i) (k0_off4_inb i h2) inb_S12x4x512_S1x1x512_8_0_0 inb_S12x4x512_S1x1x512_8_1_0 inb_S12x4x512_S1x1x512_8_2_0 inb_S12x4x512_S1x1x512_8_3_0 inb_S12x4x512_S1x1x512_9_0_0 inb_S12x4x512_S1x1x512_9_1_0 inb_S12x4x512_S1x1x512_9_2_0 inb_S12x4x512_S1x1x512_9_3_0 inb_S12x4x512_S1x1x512_10_0_0 inb_S12x4x512_S1x1x512_10_1_0 inb_S12x4x512_S1x1x512_10_2_0 inb_S12x4x512_S1x1x512_10_3_0 inb_S12x4x512_S1x1x512_11_0_0 inb_S12x4x512_S1x1x512_11_1_0 inb_S12x4x512_S1x1x512_11_2_0 inb_S12x4x512_S1x1x512_11_3_0 x, ?_⟩
      refine List.forall_mem_cons.2 ⟨fun x => code_piece c i f2 1 (by decide) (k0_off3 i) (k0_off3_eq i) (k0_off3_inb i h2) inb_S12x4x512_S1x1x512_4_0_0 inb_S12x4x512_S1x1x512_4_1_0 inb_S12x4x512_S1x1x512_4_2_0 inb_S12x4x512_S1x1x512_4_3_0 inb_S12x4x512_S1x1x512_5_0_0 inb_S12x4x512_S1x1x512_5_1_0 inb_S12x4x512_S1x1x512_5_2_0 inb_S12x4x512_S1x1x512_5_3_0 inb_S12x4x512_S1x1x512_6_0_0 inb_S12x4x512_S1x1x512_6_1_0 inb_S12x4x512_S1x1x512_6_2_0 inb_S12x4x512_S1x1x512_6_3_0 inb_S12x4x512_S1x1x512_7_0_0 inb_S12x4x512_S1x1x512_7_1_0 inb_S12x4x512_S1x1x512_7_2_0 inb_S12x4x512_S1x1x512_7_3_0 x, ?_⟩
      refine List.forall_mem_cons.2 ⟨fun x => code_piece c i f2 0 (by decide) (k0_off2 i) (k0_off2_eq i) (k0_off2_inb i h2) inb_S12x4x512_S1x1x512_0_0_0 inb_S12x4x512_S1x1x512_0_1_0 inb_S12x4x512_S1x1x512_0_2_0 inb_S12x4x512_S1x1x512_0_3_0 inb_S12x4x512_S1x1x512_1_0_0 inb_S12x4x512_S1x1x512_1_1_0 inb_S12x4x512_S1x1x512_1_2_0 inb_S12x4x512_S1x1x512_1_3_0 inb_S12x4x512_S1x1x512_2_0_0 inb_S12x4x512_S1x1x512_2_1_0 inb_S12x4x512_S1x1x512_2_2_0 inb_S12x4x512_S1x1x512_2_3_0 inb_S12x4x512_S1x1x512_3_0_0 inb_S12x4x512_S1x1x512_3_1_0 inb_S12x4x512_S1x1x512_3_2_0 inb_S12x4x512_S1x1x512_3_3_0 x, ?_⟩
      exact fun p hp => absurd hp List.not_mem_nil
    · simp only [List.exists_mem_cons_iff, code_mem i _ 256 (k0_off4_eq i), code_mem i _ 128 (k0_off3_eq i), code_mem i _ 0 (k0_off2_eq i)]
      simp only [List.not_mem_nil, false_and, exists_false]
      omega
  · rw [if_neg hy]
    refine View.read_writes_apply_of_forall_not_mem (Val := Elt Ideal) arg13.view _ y _ ?_
    refine List.forall_mem_cons.2 ⟨?_, List.forall_mem_cons.2 ⟨?_, List.forall_mem_cons.2 ⟨?_, fun p hp => absurd hp List.not_mem_nil⟩⟩⟩
    · exact fun hm => hy ((code_mem i _ 256 (k0_off4_eq i) (k0_off4_inb i h2) y).1 hm).1
    · exact fun hm => hy ((code_mem i _ 128 (k0_off3_eq i) (k0_off3_inb i h2) y).1 hm).1
    · exact fun hm => hy ((code_mem i _ 0 (k0_off2_eq i) (k0_off2_inb i h2) y).1 hm).1

/-- The column table after the preparation. -/
theorem runB_cols (h2 : k0_cond2 i = 1#1) (y : S6x4x512x128.Idx) : arg14.view.read (Elt Ideal) ((runB (F := Ideal) c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.2) y
    = if (y 0).val = (i 1).val then colS (arg3.view.read (Elt Ideal) f3) (arg4.view.read (Elt Ideal) f4) (arg5.view.read (Elt Ideal) f5) (arg6.view.read (Elt Ideal) f6) (y 1).val (y 2) else (arg14.view.read (Elt Ideal) f14) y := by
  have hy2 : (y 1).val < 4 := (y 1).isLt
  unfold runB; sl_unfold_run_names
  dsimp only
  by_cases hy : (y 0).val = (i 1).val
  · rw [if_pos hy]
    refine View.read_writes_apply_of_pieces (Val := Elt Ideal) arg14.view _ (fun y : S6x4x512x128.Idx => colS (arg3.view.read (Elt Ideal) f3) (arg4.view.read (Elt Ideal) f4) (arg5.view.read (Elt Ideal) f5) (arg6.view.read (Elt Ideal) f6) (y 1).val (y 2)) _ ?_ y ?_
    · have ew3 : View.readAt (Elt Ideal) arg3.view (Rect.unit (s := S1x512) ![0, 0] ![1, 512] inb_S1x512_S1x512_0_0).toLoadRect f3 = (arg3.view.read (Elt Ideal) f3) :=
        whole_read (Val := Elt Ideal) arg3.view f3 ![0, 0] (fun a => by match a with | ⟨0, _⟩ => rfl | ⟨1, _⟩ => rfl) inb_S1x512_S1x512_0_0
      have ew4 : View.readAt (Elt Ideal) arg4.view (Rect.unit (s := S1x512) ![0, 0] ![1, 512] inb_S1x512_S1x512_0_0).toLoadRect f4 = (arg4.view.read (Elt Ideal) f4) :=
        whole_read (Val := Elt Ideal) arg4.view f4 ![0, 0] (fun a => by match a with | ⟨0, _⟩ => rfl | ⟨1, _⟩ => rfl) inb_S1x512_S1x512_0_0
      have ew5 : View.readAt (Elt Ideal) arg5.view (Rect.unit (s := S1x512) ![0, 0] ![1, 512] inb_S1x512_S1x512_0_0).toLoadRect f5 = (arg5.view.read (Elt Ideal) f5) :=
        whole_read (Val := Elt Ideal) arg5.view f5 ![0, 0] (fun a => by match a with | ⟨0, _⟩ => rfl | ⟨1, _⟩ => rfl) inb_S1x512_S1x512_0_0
      have ew6 : View.readAt (Elt Ideal) arg6.view (Rect.unit (s := S1x512) ![0, 0] ![1, 512] inb_S1x512_S1x512_0_0).toLoadRect f6 = (arg6.view.read (Elt Ideal) f6) :=
        whole_read (Val := Elt Ideal) arg6.view f6 ![0, 0] (fun a => by match a with | ⟨0, _⟩ => rfl | ⟨1, _⟩ => rfl) inb_S1x512_S1x512_0_0
      have e1 : ∀ (off : Fin 4 → ℕ) (k : ℕ) (e : off = ![(i 1).val, k, 0, 0]) (inb : ∀ a, off a + (![1, 1, 512, 128] : Fin 4 → ℕ) a ≤ S6x4x512x128.size a) (x : S1x1x512x128.Idx),
          ((Rect.unit (s := S6x4x512x128) off ![1, 1, 512, 128] inb).emb x 1).val = k := by
        intro off k e inb x
        subst e
        have := (x 1).isLt
        change _ < 1 at this
        show k + 1 * (x 1).val = _
        omega
      have e2 : ∀ (off : Fin 4 → ℕ) (k : ℕ) (e : off = ![(i 1).val, k, 0, 0]) (inb : ∀ a, off a + (![1, 1, 512, 128] : Fin 4 → ℕ) a ≤ S6x4x512x128.size a) (x : S1x1x512x128.Idx),
          (Rect.unit (s := S6x4x512x128) off ![1, 1, 512, 128] inb).emb x 2 = x 2 := by
        intro off k e inb x
        subst e
        exact Fin.ext (by show 0 + 1 * (x 2).val = _; omega)
      rw [ew3, ew4, ew5, ew6]
      refine List.forall_mem_cons.2 ⟨fun x => ?_, List.forall_mem_cons.2 ⟨fun x => ?_, List.forall_mem_cons.2 ⟨fun x => ?_, List.forall_mem_cons.2 ⟨fun x => ?_, fun p hp => absurd hp List.not_mem_nil⟩⟩⟩⟩
      · refine (pay67_at (arg5.view.read (Elt Ideal) f5) x).trans ?_
        dsimp only
        rw [e1 _ 3 (k0_off8_eq i) (k0_off8_inb i h2), e2 _ 3 (k0_off8_eq i) (k0_off8_inb i h2)]
        rfl
      · refine (pay66_at (arg3.view.read (Elt Ideal) f3) (arg4.view.read (Elt Ideal) f4) (arg6.view.read (Elt Ideal) f6) x).trans ?_
        dsimp only
        rw [e1 _ 2 (k0_off7_eq i) (k0_off7_inb i h2), e2 _ 2 (k0_off7_eq i) (k0_off7_inb i h2)]
        rfl
      · refine (pay65_at (arg4.view.read (Elt Ideal) f4) x).trans ?_
        dsimp only
        rw [e1 _ 1 (k0_off6_eq i) (k0_off6_inb i h2), e2 _ 1 (k0_off6_eq i) (k0_off6_inb i h2)]
        rfl
      · refine (pay60_at (arg3.view.read (Elt Ideal) f3) x).trans ?_
        dsimp only
        rw [e1 _ 0 (k0_off5_eq i) (k0_off5_inb i h2), e2 _ 0 (k0_off5_eq i) (k0_off5_inb i h2)]
        rfl
    · simp only [List.exists_mem_cons_iff, col_mem i _ 3 (k0_off8_eq i), col_mem i _ 2 (k0_off7_eq i), col_mem i _ 1 (k0_off6_eq i), col_mem i _ 0 (k0_off5_eq i)]
      simp only [List.not_mem_nil, false_and, exists_false]
      omega
  · rw [if_neg hy]
    refine View.read_writes_apply_of_forall_not_mem (Val := Elt Ideal) arg14.view _ y _ ?_
    refine List.forall_mem_cons.2 ⟨?_, List.forall_mem_cons.2 ⟨?_, List.forall_mem_cons.2 ⟨?_, List.forall_mem_cons.2 ⟨?_, fun p hp => absurd hp List.not_mem_nil⟩⟩⟩⟩
    · exact fun hm => hy ((col_mem i _ 3 (k0_off8_eq i) (k0_off8_inb i h2) y).1 hm).1
    · exact fun hm => hy ((col_mem i _ 2 (k0_off7_eq i) (k0_off7_inb i h2) y).1 hm).1
    · exact fun hm => hy ((col_mem i _ 1 (k0_off6_eq i) (k0_off6_inb i h2) y).1 hm).1
    · exact fun hm => hy ((col_mem i _ 0 (k0_off5_eq i) (k0_off5_inb i h2) y).1 hm).1

end Whole

end Cert.Proof.KernelIdeal
-- ==== Proof.ValC2.lean ====
module

public import proofs.«01_k».proof.Proof.ValC

/-! The three result blocks after the sixteen chunks of a point. -/

@[expose] public section

set_option maxRecDepth 16384

noncomputable section

namespace Cert.Proof.KernelIdeal

open Cert.KernelIdeal Cert.KernelIdeal.Gen
open Idealize.ShloMosaic
open Idealize.ShloMosaic.TcCoe Idealize.ShloMosaic.Tactic

open Idealize.ShloMosaic.ValueIdx

/-- A column of the block lies in its chunk. -/
theorem chunk_mem (h : ℕ) (inb) (y : S512x2048.Idx) :
    y ∈ (Rect.unit (s := S512x2048) ![0, h] ![512, 128] inb).set ↔ h ≤ (y 1).val ∧ (y 1).val < h + 128 := by
  rw [Rect.mem_set_unit]
  constructor
  · intro hy; exact hy 1
  · intro hy a
    match a with
    | ⟨0, _⟩ => have := (y 0).isLt; exact ⟨Nat.zero_le _, by show (y 0).val < 0 + 512; change _ < 512 at this; omega⟩
    | ⟨1, _⟩ => exact hy

section Whole
variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16)

/-- The est block after the chunks. -/
theorem runC_est : arg12.view.read (Elt Ideal) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f13 f14 f15 f16 f10 f11 f12).1.2.2) = estS (arg13.view.read (Elt Ideal) f13) (arg14.view.read (Elt Ideal) f14) (arg15.view.read (Elt Ideal) f15) (arg16.view.read (Elt Ideal) f16) (i 1) := by
  funext y
  have h1 : (y 1).val < 2048 := (y 1).isLt
  unfold runC; sl_unfold_run_names
  dsimp only
  refine View.read_writes_apply_of_pieces (Val := Elt Ideal) arg12.view _ (estS (arg13.view.read (Elt Ideal) f13) (arg14.view.read (Elt Ideal) f14) (arg15.view.read (Elt Ideal) f15) (arg16.view.read (Elt Ideal) f16) (i 1)) _ ?_ y ?_
  ·
    refine List.forall_mem_cons.2 ⟨fun x => est_piece c i f13 f14 f15 f16 1920 1792 128 rfl rfl (by decide) inb_S512x2048_S512x128_0_1920 _ inb_S384x2048_S384x256_0_1792 slices_S512x256_o0_128_S512x128 _ _ _ _ _ x, ?_⟩
    refine List.forall_mem_cons.2 ⟨fun x => est_piece c i f13 f14 f15 f16 1792 1792 0 rfl rfl (by decide) inb_S512x2048_S512x128_0_1792 _ inb_S384x2048_S384x256_0_1792 slices_S512x256_o0_0_S512x128 _ _ _ _ _ x, ?_⟩
    refine List.forall_mem_cons.2 ⟨fun x => est_piece c i f13 f14 f15 f16 1664 1536 128 rfl rfl (by decide) inb_S512x2048_S512x128_0_1664 _ inb_S384x2048_S384x256_0_1536 slices_S512x256_o0_128_S512x128 _ _ _ _ _ x, ?_⟩
    refine List.forall_mem_cons.2 ⟨fun x => est_piece c i f13 f14 f15 f16 1536 1536 0 rfl rfl (by decide) inb_S512x2048_S512x128_0_1536 _ inb_S384x2048_S384x256_0_1536 slices_S512x256_o0_0_S512x128 _ _ _ _ _ x, ?_⟩
    refine List.forall_mem_cons.2 ⟨fun x => est_piece c i f13 f14 f15 f16 1408 1280 128 rfl rfl (by decide) inb_S512x2048_S512x128_0_1408 _ inb_S384x2048_S384x256_0_1280 slices_S512x256_o0_128_S512x128 _ _ _ _ _ x, ?_⟩
    refine List.forall_mem_cons.2 ⟨fun x => est_piece c i f13 f14 f15 f16 1280 1280 0 rfl rfl (by decide) inb_S512x2048_S512x128_0_1280 _ inb_S384x2048_S384x256_0_1280 slices_S512x256_o0_0_S512x128 _ _ _ _ _ x, ?_⟩
    refine List.forall_mem_cons.2 ⟨fun x => est_piece c i f13 f14 f15 f16 1152 1024 128 rfl rfl (by decide) inb_S512x2048_S512x128_0_1152 _ inb_S384x2048_S384x256_0_1024 slices_S512x256_o0_128_S512x128 _ _ _ _ _ x, ?_⟩
    refine List.forall_mem_cons.2 ⟨fun x => est_piece c i f13 f14 f15 f16 1024 1024 0 rfl rfl (by decide) inb_S512x2048_S512x128_0_1024 _ inb_S384x2048_S384x256_0_1024 slices_S512x256_o0_0_S512x128 _ _ _ _ _ x, ?_⟩
    refine List.forall_mem_cons.2 ⟨fun x => est_piece c i f13 f14 f15 f16 896 768 128 rfl rfl (by decide) inb_S512x2048_S512x128_0_896 _ inb_S384x2048_S384x256_0_768 slices_S512x256_o0_128_S512x128 _ _ _ _ _ x, ?_⟩
    refine List.forall_mem_cons.2 ⟨fun x => est_piece c i f13 f14 f15 f16 768 768 0 rfl rfl (by decide) inb_S512x2048_S512x128_0_768 _ inb_S384x2048_S384x256_0_768 slices_S512x256_o0_0_S512x128 _ _ _ _ _ x, ?_⟩
    refine List.forall_mem_cons.2 ⟨fun x => est_piece c i f13 f14 f15 f16 640 512 128 rfl rfl (by decide) inb_S512x2048_S512x128_0_640 _ inb_S384x2048_S384x256_0_512 slices_S512x256_o0_128_S512x128 _ _ _ _ _ x, ?_⟩
    refine List.forall_mem_cons.2 ⟨fun x => est_piece c i f13 f14 f15 f16 512 512 0 rfl rfl (by decide) inb_S512x2048_S512x128_0_512 _ inb_S384x2048_S384x256_0_512 slices_S512x256_o0_0_S512x128 _ _ _ _ _ x, ?_⟩
    refine List.forall_mem_cons.2 ⟨fun x => est_piece c i f13 f14 f15 f16 384 256 128 rfl rfl (by decide) inb_S512x2048_S512x128_0_384 _ inb_S384x2048_S384x256_0_256 slices_S512x256_o0_128_S512x128 _ _ _ _ _ x, ?_⟩
    refine List.forall_mem_cons.2 ⟨fun x => est_piece c i f13 f14 f15 f16 256 256 0 rfl rfl (by decide) inb_S512x2048_S512x128_0_256 _ inb_S384x2048_S384x256_0_256 slices_S512x256_o0_0_S512x128 _ _ _ _ _ x, ?_⟩
    refine List.forall_mem_cons.2 ⟨fun x => est_piece c i f13 f14 f15 f16 128 0 128 rfl rfl (by decide) inb_S512x2048_S512x128_0_128 _ inb_S384x2048_S384x256_0_0 slices_S512x256_o0_128_S512x128 _ _ _ _ _ x, ?_⟩
    refine List.forall_mem_cons.2 ⟨fun x => est_piece c i f13 f14 f15 f16 0 0 0 rfl rfl (by decide) inb_S512x2048_S512x128_0_0 _ inb_S384x2048_S384x256_0_0 slices_S512x256_o0_0_S512x128 _ _ _ _ _ x, ?_⟩
    exact fun p hp => absurd hp List.not_mem_nil
  · simp only [List.exists_mem_cons_iff, chunk_mem]
    simp only [List.not_mem_nil, false_and, exists_false]
    omega

/-- The dist block after the chunks. -/
theorem runC_dist : arg10.view.read (Elt Ideal) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f13 f14 f15 f16 f10 f11 f12).1.1) = distS (arg13.view.read (Elt Ideal) f13) (arg14.view.read (Elt Ideal) f14) (arg15.view.read (Elt Ideal) f15) (arg16.view.read (Elt Ideal) f16) (i 1) := by
  funext y
  have h1 : (y 1).val < 2048 := (y 1).isLt
  unfold runC; sl_unfold_run_names
  dsimp only
  refine View.read_writes_apply_of_pieces (Val := Elt Ideal) arg10.view _ (distS (arg13.view.read (Elt Ideal) f13) (arg14.view.read (Elt Ideal) f14) (arg15.view.read (Elt Ideal) f15) (arg16.view.read (Elt Ideal) f16) (i 1)) _ ?_ y ?_
  ·
    refine List.forall_mem_cons.2 ⟨fun x => dist_piece c i f13 f14 f15 f16 1920 1792 128 rfl rfl (by decide) inb_S512x2048_S512x128_0_1920 _ inb_S384x2048_S384x256_0_1792 slices_S512x256_o0_128_S512x128 _ _ _ _ _ _ _ _ x, ?_⟩
    refine List.forall_mem_cons.2 ⟨fun x => dist_piece c i f13 f14 f15 f16 1792 1792 0 rfl rfl (by decide) inb_S512x2048_S512x128_0_1792 _ inb_S384x2048_S384x256_0_1792 slices_S512x256_o0_0_S512x128 _ _ _ _ _ _ _ _ x, ?_⟩
    refine List.forall_mem_cons.2 ⟨fun x => dist_piece c i f13 f14 f15 f16 1664 1536 128 rfl rfl (by decide) inb_S512x2048_S512x128_0_1664 _ inb_S384x2048_S384x256_0_1536 slices_S512x256_o0_128_S512x128 _ _ _ _ _ _ _ _ x, ?_⟩
    refine List.forall_mem_cons.2 ⟨fun x => dist_piece c i f13 f14 f15 f16 1536 1536 0 rfl rfl (by decide) inb_S512x2048_S512x128_0_1536 _ inb_S384x2048_S384x256_0_1536 slices_S512x256_o0_0_S512x128 _ _ _ _ _ _ _ _ x, ?_⟩
    refine List.forall_mem_cons.2 ⟨fun x => dist_piece c i f13 f14 f15 f16 1408 1280 128 rfl rfl (by decide) inb_S512x2048_S512x128_0_1408 _ inb_S384x2048_S384x256_0_1280 slices_S512x256_o0_128_S512x128 _ _ _ _ _ _ _ _ x, ?_⟩
    refine List.forall_mem_cons.2 ⟨fun x => dist_piece c i f13 f14 f15 f16 1280 1280 0 rfl rfl (by decide) inb_S512x2048_S512x128_0_1280 _ inb_S384x2048_S384x256_0_1280 slices_S512x256_o0_0_S512x128 _ _ _ _ _ _ _ _ x, ?_⟩
    refine List.forall_mem_cons.2 ⟨fun x => dist_piece c i f13 f14 f15 f16 1152 1024 128 rfl rfl (by decide) inb_S512x2048_S512x128_0_1152 _ inb_S384x2048_S384x256_0_1024 slices_S512x256_o0_128_S512x128 _ _ _ _ _ _ _ _ x, ?_⟩
    refine List.forall_mem_cons.2 ⟨fun x => dist_piece c i f13 f14 f15 f16 1024 1024 0 rfl rfl (by decide) inb_S512x2048_S512x128_0_1024 _ inb_S384x2048_S384x256_0_1024 slices_S512x256_o0_0_S512x128 _ _ _ _ _ _ _ _ x, ?_⟩
    refine List.forall_mem_cons.2 ⟨fun x => dist_piece c i f13 f14 f15 f16 896 768 128 rfl rfl (by decide) inb_S512x2048_S512x128_0_896 _ inb_S384x2048_S384x256_0_768 slices_S512x256_o0_128_S512x128 _ _ _ _ _ _ _ _ x, ?_⟩
    refine List.forall_mem_cons.2 ⟨fun x => dist_piece c i f13 f14 f15 f16 768 768 0 rfl rfl (by decide) inb_S512x2048_S512x128_0_768 _ inb_S384x2048_S384x256_0_768 slices_S512x256_o0_0_S512x128 _ _ _ _ _ _ _ _ x, ?_⟩
    refine List.forall_mem_cons.2 ⟨fun x => dist_piece c i f13 f14 f15 f16 640 512 128 rfl rfl (by decide) inb_S512x2048_S512x128_0_640 _ inb_S384x2048_S384x256_0_512 slices_S512x256_o0_128_S512x128 _ _ _ _ _ _ _ _ x, ?_⟩
    refine List.forall_mem_cons.2 ⟨fun x => dist_piece c i f13 f14 f15 f16 512 512 0 rfl rfl (by decide) inb_S512x2048_S512x128_0_512 _ inb_S384x2048_S384x256_0_512 slices_S512x256_o0_0_S512x128 _ _ _ _ _ _ _ _ x, ?_⟩
    refine List.forall_mem_cons.2 ⟨fun x => dist_piece c i f13 f14 f15 f16 384 256 128 rfl rfl (by decide) inb_S512x2048_S512x128_0_384 _ inb_S384x2048_S384x256_0_256 slices_S512x256_o0_128_S512x128 _ _ _ _ _ _ _ _ x, ?_⟩
    refine List.forall_mem_cons.2 ⟨fun x => dist_piece c i f13 f14 f15 f16 256 256 0 rfl rfl (by decide) inb_S512x2048_S512x128_0_256 _ inb_S384x2048_S384x256_0_256 slices_S512x256_o0_0_S512x128 _ _ _ _ _ _ _ _ x, ?_⟩
    refine List.forall_mem_cons.2 ⟨fun x => dist_piece c i f13 f14 f15 f16 128 0 128 rfl rfl (by decide) inb_S512x2048_S512x128_0_128 _ inb_S384x2048_S384x256_0_0 slices_S512x256_o0_128_S512x128 _ _ _ _ _ _ _ _ x, ?_⟩
    refine List.forall_mem_cons.2 ⟨fun x => dist_piece c i f13 f14 f15 f16 0 0 0 rfl rfl (by decide) inb_S512x2048_S512x128_0_0 _ inb_S384x2048_S384x256_0_0 slices_S512x256_o0_0_S512x128 _ _ _ _ _ _ _ _ x, ?_⟩
    exact fun p hp => absurd hp List.not_mem_nil
  · simp only [List.exists_mem_cons_iff, chunk_mem]
    simp only [List.not_mem_nil, false_and, exists_false]
    omega

/-- The bound block after the chunks. -/
theorem runC_bound : arg11.view.read (Elt Ideal) ((runC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f13 f14 f15 f16 f10 f11 f12).1.2.1) = boundS (arg14.view.read (Elt Ideal) f14) (arg16.view.read (Elt Ideal) f16) (i 1) := by
  funext y
  have h1 : (y 1).val < 2048 := (y 1).isLt
  unfold runC; sl_unfold_run_names
  dsimp only
  refine View.read_writes_apply_of_pieces (Val := Elt Ideal) arg11.view _ (boundS (arg14.view.read (Elt Ideal) f14) (arg16.view.read (Elt Ideal) f16) (i 1)) _ ?_ y ?_
  ·
    refine List.forall_mem_cons.2 ⟨fun x => bound_piece c i f14 f16 1920 rfl inb_S512x2048_S512x128_0_1920 _ _ x, ?_⟩
    refine List.forall_mem_cons.2 ⟨fun x => bound_piece c i f14 f16 1792 rfl inb_S512x2048_S512x128_0_1792 _ _ x, ?_⟩
    refine List.forall_mem_cons.2 ⟨fun x => bound_piece c i f14 f16 1664 rfl inb_S512x2048_S512x128_0_1664 _ _ x, ?_⟩
    refine List.forall_mem_cons.2 ⟨fun x => bound_piece c i f14 f16 1536 rfl inb_S512x2048_S512x128_0_1536 _ _ x, ?_⟩
    refine List.forall_mem_cons.2 ⟨fun x => bound_piece c i f14 f16 1408 rfl inb_S512x2048_S512x128_0_1408 _ _ x, ?_⟩
    refine List.forall_mem_cons.2 ⟨fun x => bound_piece c i f14 f16 1280 rfl inb_S512x2048_S512x128_0_1280 _ _ x, ?_⟩
    refine List.forall_mem_cons.2 ⟨fun x => bound_piece c i f14 f16 1152 rfl inb_S512x2048_S512x128_0_1152 _ _ x, ?_⟩
    refine List.forall_mem_cons.2 ⟨fun x => bound_piece c i f14 f16 1024 rfl inb_S512x2048_S512x128_0_1024 _ _ x, ?_⟩
    refine List.forall_mem_cons.2 ⟨fun x => bound_piece c i f14 f16 896 rfl inb_S512x2048_S512x128_0_896 _ _ x, ?_⟩
    refine List.forall_mem_cons.2 ⟨fun x => bound_piece c i f14 f16 768 rfl inb_S512x2048_S512x128_0_768 _ _ x, ?_⟩
    refine List.forall_mem_cons.2 ⟨fun x => bound_piece c i f14 f16 640 rfl inb_S512x2048_S512x128_0_640 _ _ x, ?_⟩
    refine List.forall_mem_cons.2 ⟨fun x => bound_piece c i f14 f16 512 rfl inb_S512x2048_S512x128_0_512 _ _ x, ?_⟩
    refine List.forall_mem_cons.2 ⟨fun x => bound_piece c i f14 f16 384 rfl inb_S512x2048_S512x128_0_384 _ _ x, ?_⟩
    refine List.forall_mem_cons.2 ⟨fun x => bound_piece c i f14 f16 256 rfl inb_S512x2048_S512x128_0_256 _ _ x, ?_⟩
    refine List.forall_mem_cons.2 ⟨fun x => bound_piece c i f14 f16 128 rfl inb_S512x2048_S512x128_0_128 _ _ x, ?_⟩
    refine List.forall_mem_cons.2 ⟨fun x => bound_piece c i f14 f16 0 rfl inb_S512x2048_S512x128_0_0 _ _ x, ?_⟩
    exact fun p hp => absurd hp List.not_mem_nil
  · simp only [List.exists_mem_cons_iff, chunk_mem]
    simp only [List.not_mem_nil, false_and, exists_false]
    omega
end Whole

end Cert.Proof.KernelIdeal
-- ==== Proof.Step.lean ====
module

public import proofs.«01_k».proof.Proof.ValB
public import proofs.«01_k».proof.Proof.ValC2
public import proofs.«01_k».proof.Proof.Body
public import Idealize.ShloMosaic.Lib.Pointwise.Reduce

/-! The results as scalar expressions of one query and one database column, and one point of the grid in these terms. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.ValueIdx

/-! ### Counting bits -/

/-- The set bits of a word. -/
def cnt (x : BitVec 32) : ℕ := ∑ i : Fin 32, bitN (x.getLsbD i.val)

theorem cnt_le (x : BitVec 32) : cnt x ≤ 32 := by
  unfold cnt
  calc ∑ i : Fin 32, bitN (x.getLsbD i.val) ≤ ∑ _i : Fin 32, 1 := Finset.sum_le_sum fun i _ => by unfold bitN; split <;> omega
    _ = 32 := by simp

theorem ctpop_toNat (x : BitVec 32) : (IntOp.ctpop x).toNat = cnt x := by
  have h : ((List.range 32).filter fun i => x.getLsbD i).length = cnt x := by
    unfold cnt
    rw [Fin.sum_univ_eq_sum_range (fun i => bitN (x.getLsbD i)) 32]
    have : ∀ n, ((List.range n).filter fun i => x.getLsbD i).length = ∑ i ∈ Finset.range n, bitN (x.getLsbD i) := by
      intro n
      induction n with
      | zero => rfl
      | succ n ih =>
        rw [List.range_succ, List.filter_append, List.length_append, ih, Finset.sum_range_succ]
        congr 1
        unfold bitN
        cases hb : x.getLsbD n <;> simp [hb]
    exact this 32
  unfold IntOp.ctpop
  rw [BitVec.toNat_ofNat, h]
  have := cnt_le x
  omega

/-- A sum of words that does not overflow. -/
theorem fold_addi_toNat {ι : Type*} (s : Finset ι) (f : ι → BitVec 32) :
    (s.fold IntOp.addi 0#32 f).toNat = (∑ x ∈ s, (f x).toNat) % 2 ^ 32 := by
  classical
  induction s using Finset.induction_on with
  | empty => rfl
  | insert a s ha ih =>
    rw [Finset.fold_insert ha, Finset.sum_insert ha]
    show (f a + _).toNat = _
    rw [BitVec.toNat_add, ih]
    omega

theorem fold_addi_toInt {ι : Type*} (s : Finset ι) (f : ι → BitVec 32) (n : ℕ) (hn : ∑ x ∈ s, (f x).toNat = n) (hb : n < 2 ^ 31) :
    (s.fold IntOp.addi 0#32 f).toInt = (n : ℤ) := by
  have h := fold_addi_toNat s f
  rw [hn] at h
  rw [BitVec.toInt_eq_toNat_cond, h]
  have : n % 2 ^ 32 = n := Nat.mod_eq_of_lt (by omega)
  rw [this, if_pos (by omega)]

/-- The set bits of a database column. -/
def popW (a : Fin 12 → BitVec 32) : ℕ := ∑ w : Fin 12, cnt (a w)

theorem popW_le (a : Fin 12 → BitVec 32) : popW a ≤ 384 := by
  unfold popW
  calc ∑ w : Fin 12, cnt (a w) ≤ ∑ _w : Fin 12, 32 := Finset.sum_le_sum fun w _ => cnt_le _
    _ = 384 := by simp

theorem popRow_toInt (A : S12x2048.Idx → BitVec 32) (j : Fin 2048) : (popRow A (ix1 j)).toInt = (popW (fun w => A (ix2 w j)) : ℤ) := by
  unfold popRow
  refine (congrArg BitVec.toInt ((multiReductionI_eq_fold .add (ctpop A) 0#32 reduces_S12x2048_S2048 rfl (ix1 j)).trans <| Shape.Reduces.fold_fiber_r2_a0 (n0 := 12) (n1 := 2048) reduces_S12x2048_S2048 (ix1 j) IntOp.addi 0#32 (ctpop A))).trans ?_
  refine fold_addi_toInt _ _ _ ?_ (by have := popW_le (fun w => A (ix2 w j)); omega)
  unfold popW
  exact Finset.sum_congr rfl fun w _ => ctpop_toNat _

/-! ### The tables by row and column -/

/-- A query's four-bit code at a dimension. -/
def codeW (p : Fin 12 → Fin 4 → BitVec 32) (k : Fin 384) : ℕ :=
  let w : Fin 12 := ⟨k.val / 32, by have := k.isLt; omega⟩
  bitN ((p w 0).getLsbD (place k.val)) + 2 * bitN ((p w 1).getLsbD (place k.val))
    + 4 * bitN ((p w 2).getLsbD (place k.val)) + 8 * bitN ((p w 3).getLsbD (place k.val))

/-- Twice a database column's bit at a dimension. -/
def bitW (a : Fin 12 → BitVec 32) (k : Fin 384) : EReal :=
  if (a ⟨k.val / 32, by have := k.isLt; omega⟩).getLsbD (place k.val) then 2 else 0

/-- A query's columns. -/
def colW (qd qv nq sq : EReal) (k : ℕ) : EReal :=
  match k with
  | 0 => Ideal.div qd sd32
  | 1 => Ideal.div (two32 * qv) sd32
  | 2 => Ideal.div qd sd32 * sq + sd32 * qv
  | _ => nq

/-- A database column's rows. -/
def rowW (a : Fin 12 → BitVec 32) (d o : EReal) (k : ℕ) : EReal :=
  match k with
  | 0 => ((popW a : ℝ) : EReal)
  | 1 => Ideal.div one32 o
  | 2 => d * d
  | 3 => two32 * d
  | _ => Ideal.div (Ideal.div (two32 * d * Ideal.sqrt (one32 - o * o)) o * eps32) sdm32

/-- The inner product. -/
def accW (p : Fin 12 → Fin 4 → BitVec 32) (a : Fin 12 → BitVec 32) : EReal := ∑ k : Fin 384, ((codeW p k : ℝ) : EReal) * bitW a k

/-- The estimate of one query against one column. -/
def estW (p : Fin 12 → Fin 4 → BitVec 32) (qd qv nq sq : EReal) (a : Fin 12 → BitVec 32) (d o : EReal) : EReal :=
  (colW qd qv nq sq 0 * accW p a + colW qd qv nq sq 1 * rowW a d o 0 - colW qd qv nq sq 2) * rowW a d o 1

/-- The distance. -/
def distW (p : Fin 12 → Fin 4 → BitVec 32) (qd qv nq sq : EReal) (a : Fin 12 → BitVec 32) (d o : EReal) : EReal :=
  rowW a d o 2 + nq * nq - rowW a d o 3 * nq * estW p qd qv nq sq a d o

/-- The bound. -/
def boundW (nq : EReal) (a : Fin 12 → BitVec 32) (d o : EReal) : EReal := nq * rowW a d o 4

/-- The sources: what the kernel reads of a query and of a database column. -/
structure Src where
  P : ℕ → Fin 12 → Fin 4 → BitVec 32
  qd : ℕ → EReal
  qv : ℕ → EReal
  nq : ℕ → EReal
  sq : ℕ → EReal
  A : ℕ → Fin 12 → BitVec 32
  d : ℕ → EReal
  o : ℕ → EReal

/-- The three results at a query and a column. -/
def Src.est (s : Src) (r n : ℕ) : EReal := estW (s.P r) (s.qd r) (s.qv r) (s.nq r) (s.sq r) (s.A n) (s.d n) (s.o n)
def Src.dist (s : Src) (r n : ℕ) : EReal := distW (s.P r) (s.qd r) (s.qv r) (s.nq r) (s.sq r) (s.A n) (s.d n) (s.o n)
def Src.bound (s : Src) (r n : ℕ) : EReal := boundW (s.nq r) (s.A n) (s.d n) (s.o n)

/-- The query tables hold the blocks prepared so far. -/
def InvQ (s : Src) (t : ℕ) (Q : S6x512x384.Idx → EReal) (C : S6x4x512x128.Idx → EReal) : Prop :=
  (∀ y : S6x512x384.Idx, (y 0).val < t → 512 * (y 0).val + (y 1).val < 3000 →
      Q y = ((codeW (s.P (512 * (y 0).val + (y 1).val)) (y 2) : ℝ) : EReal))
  ∧ ∀ y : S6x4x512x128.Idx, (y 0).val < t → 512 * (y 0).val + (y 2).val < 3000 →
      C y = colW (s.qd (512 * (y 0).val + (y 2).val)) (s.qv (512 * (y 0).val + (y 2).val)) (s.nq (512 * (y 0).val + (y 2).val)) (s.sq (512 * (y 0).val + (y 2).val)) (y 1).val

/-- The database tables hold the block in hand. -/
def InvD (s : Src) (n : ℕ) (B : S384x2048.Idx → EReal) (R : S8x2048.Idx → EReal) : Prop :=
  (∀ y : S384x2048.Idx, B y = bitW (s.A (2048 * n + (y 1).val)) (y 0))
  ∧ ∀ y : S8x2048.Idx, (y 0).val < 5 → R y = rowW (s.A (2048 * n + (y 1).val)) (s.d (2048 * n + (y 1).val)) (s.o (2048 * n + (y 1).val)) (y 0).val

/-- The chunks' estimate from the tables. -/
theorem est_of (s : Src) (t n : ℕ) (m : Fin 6) (hm : m.val < t) (Q C B R) (hq : InvQ s t Q C) (hd : InvD s n B R) (y : S512x2048.Idx)
    (hy : 512 * m.val + (y 0).val < 3000) : estS Q C B R m y = s.est (512 * m.val + (y 0).val) (2048 * n + (y 1).val) := by
  have ea : accS Q B m y = accW (s.P (512 * m.val + (y 0).val)) (s.A (2048 * n + (y 1).val)) := by
    unfold accS accW
    refine Finset.sum_congr rfl fun k _ => ?_
    rw [hq.1 (ix3 m (y 0) k) hm hy, hd.1 (ix2 k (y 1))]
  unfold estS
  rw [ea, hq.2 (ix4 m 0 (y 0) (lane y)) hm hy, hq.2 (ix4 m 1 (y 0) (lane y)) hm hy, hq.2 (ix4 m 2 (y 0) (lane y)) hm hy,
    hd.2 (ix2 0 (y 1)) (by show (0 : ℕ) < 5; omega), hd.2 (ix2 1 (y 1)) (by show (1 : ℕ) < 5; omega)]
  rfl

theorem dist_of (s : Src) (t n : ℕ) (m : Fin 6) (hm : m.val < t) (Q C B R) (hq : InvQ s t Q C) (hd : InvD s n B R) (y : S512x2048.Idx)
    (hy : 512 * m.val + (y 0).val < 3000) : distS Q C B R m y = s.dist (512 * m.val + (y 0).val) (2048 * n + (y 1).val) := by
  unfold distS
  rw [est_of s t n m hm Q C B R hq hd y hy, hq.2 (ix4 m 3 (y 0) (lane y)) hm hy, hd.2 (ix2 2 (y 1)) (by show (2 : ℕ) < 5; omega), hd.2 (ix2 3 (y 1)) (by show (3 : ℕ) < 5; omega)]
  rfl

theorem bound_of (s : Src) (t n : ℕ) (m : Fin 6) (hm : m.val < t) (Q C B R) (hq : InvQ s t Q C) (hd : InvD s n B R) (y : S512x2048.Idx)
    (hy : 512 * m.val + (y 0).val < 3000) : boundS C R m y = s.bound (512 * m.val + (y 0).val) (2048 * n + (y 1).val) := by
  unfold boundS
  rw [hq.2 (ix4 m 3 (y 0) (lane y)) hm hy, hd.2 (ix2 4 (y 1)) (by show (4 : ℕ) < 5; omega)]
  rfl

theorem codeN_of (P : S12x4x512.Idx → BitVec 32) (p : Fin 12 → Fin 4 → BitVec 32) (row : Fin 512) (k : Fin 384)
    (h : ∀ w j, P (ix3 w j row) = p w j) : codeN P row k = codeW p k := by
  obtain rfl : p = fun w j => P (ix3 w j row) := funext fun w => funext fun j => (h w j).symm
  rfl
theorem bitS_of (A : S12x2048.Idx → BitVec 32) (a : Fin 12 → BitVec 32) (y : S384x2048.Idx) (h : ∀ w, A (ix2 w (y 1)) = a w) :
    bitS A y = bitW a (y 0) := by
  obtain rfl : a = fun w => A (ix2 w (y 1)) := funext fun w => (h w).symm
  rfl
theorem colS_of (qd qv nq sq : S1x512.Idx → EReal) (a b c d : EReal) (k : ℕ) (row : Fin 512) (ha : qd (ix2 0 row) = a) (hb : qv (ix2 0 row) = b)
    (hc : nq (ix2 0 row) = c) (hd : sq (ix2 0 row) = d) : colS qd qv nq sq k row = colW a b c d k := by
  subst ha hb hc hd
  match k with
  | 0 => rfl
  | 1 => rfl
  | 2 => rfl
  | _ + 3 => rfl
theorem rowS_of (A : S12x2048.Idx → BitVec 32) (d o : S1x2048.Idx → EReal) (a : Fin 12 → BitVec 32) (x z : EReal) (y : S8x2048.Idx)
    (h : ∀ w, A (ix2 w (y 1)) = a w) (hx : d (ix2 0 (y 1)) = x) (hz : o (ix2 0 (y 1)) = z) :
    rowS A d o y = rowW a x z (y 0).val := by
  obtain rfl : a = fun w => A (ix2 w (y 1)) := funext fun w => (h w).symm
  subst hx hz
  unfold rowS
  match h : (y 0).val with
  | 0 =>
    refine (congrArg (fun z : ℤ => ((z : ℝ) : EReal)) (popRow_toInt A (y 1))).trans ?_
    show (((popW (fun w => A (ix2 w (y 1))) : ℤ) : ℝ) : EReal) = ((popW (fun w => A (ix2 w (y 1))) : ℝ) : EReal)
    rw [Int.cast_natCast]
  | 1 => rfl
  | 2 => rfl
  | 3 => rfl
  | _ + 4 => rfl

section Step
variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16)

/-- The query tables after a point. -/
theorem stepQ (s : Src) (t : ℕ) (h0 : (i 0).val = t / 6) (h1 : (i 1).val = t % 6) (hc : k0_cond2 i = 1#1 ↔ (i 0).val = 0)
    (inv : InvQ s t (arg13.view.read (Elt Ideal) f13) (arg14.view.read (Elt Ideal) f14))
    (e2 : t < 6 → ∀ (w : Fin 12) (j : Fin 4) (row : Fin 512), 512 * t + row.val < 3000 → (arg2.view.read (Elt Ideal) f2) (ix3 w j row) = s.P (512 * t + row.val) w j)
    (e3 : t < 6 → ∀ row : Fin 512, 512 * t + row.val < 3000 → (arg3.view.read (Elt Ideal) f3) (ix2 0 row) = s.qd (512 * t + row.val))
    (e4 : t < 6 → ∀ row : Fin 512, 512 * t + row.val < 3000 → (arg4.view.read (Elt Ideal) f4) (ix2 0 row) = s.qv (512 * t + row.val))
    (e5 : t < 6 → ∀ row : Fin 512, 512 * t + row.val < 3000 → (arg5.view.read (Elt Ideal) f5) (ix2 0 row) = s.nq (512 * t + row.val))
    (e6 : t < 6 → ∀ row : Fin 512, 512 * t + row.val < 3000 → (arg6.view.read (Elt Ideal) f6) (ix2 0 row) = s.sq (512 * t + row.val)) :
    InvQ s (t + 1) (arg13.view.read (Elt Ideal) (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14)) (arg14.view.read (Elt Ideal) (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14)) := by
  by_cases h2 : k0_cond2 i = 1#1
  · have ht : t < 6 := by have := hc.1 h2; omega
    have h1' : (i 1).val = t := by omega
    have E13 : (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) = (runB (F := Ideal) c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.1 := by unfold left13; rw [dif_pos h2]
    have E14 : (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) = (runB (F := Ideal) c i h2 arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14).1.2 := by unfold left14; rw [dif_pos h2]
    rw [E13, E14]
    refine ⟨fun y hy hr => ?_, fun y hy hr => ?_⟩
    · rw [runB_codes]
      by_cases hm : (y 0).val = (i 1).val
      · rw [if_pos hm]
        have h512 : 512 * t + (y 1).val = 512 * (y 0).val + (y 1).val := by omega
        exact congrArg (fun n : ℕ => ((n : ℝ) : EReal)) (codeN_of _ (s.P (512 * (y 0).val + (y 1).val)) (y 1) (y 2) fun w j =>
          (e2 ht w j (y 1) (h512 ▸ hr)).trans (congrArg (fun r => s.P r w j) h512))
      · rw [if_neg hm]
        exact inv.1 y (by omega) hr
    · rw [runB_cols]
      by_cases hm : (y 0).val = (i 1).val
      · rw [if_pos hm]
        have h512 : 512 * t + (y 2).val = 512 * (y 0).val + (y 2).val := by omega
        exact colS_of _ _ _ _ _ _ _ _ _ (y 2) ((e3 ht (y 2) (h512 ▸ hr)).trans (congrArg s.qd h512)) ((e4 ht (y 2) (h512 ▸ hr)).trans (congrArg s.qv h512))
          ((e5 ht (y 2) (h512 ▸ hr)).trans (congrArg s.nq h512)) ((e6 ht (y 2) (h512 ▸ hr)).trans (congrArg s.sq h512))
      · rw [if_neg hm]
        exact inv.2 y (by omega) hr
  · have ht : 6 ≤ t := by
      by_contra h
      exact h2 (hc.2 (by omega))
    have E13 : (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) = f13 := by unfold left13; rw [dif_neg h2]
    have E14 : (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) = f14 := by unfold left14; rw [dif_neg h2]
    rw [E13, E14]
    refine ⟨fun y _ hr => inv.1 y ?_ hr, fun y _ hr => inv.2 y ?_ hr⟩
    · have := (y 0).isLt; change _ < 6 at this; omega
    · have := (y 0).isLt; change _ < 6 at this; omega

/-- The database tables after a point. -/
theorem stepD (s : Src) (t : ℕ) (h0 : (i 0).val = t / 6) (h1 : (i 1).val = t % 6) (hc : condA i ↔ (i 1).val = 0)
    (inv : t % 6 ≠ 0 → InvD s (t / 6) (arg15.view.read (Elt Ideal) f15) (arg16.view.read (Elt Ideal) f16))
    (e7 : ∀ (w : Fin 12) (j : Fin 2048), (arg7.view.read (Elt Ideal) f7) (ix2 w j) = s.A (2048 * (t / 6) + j.val) w)
    (e8 : ∀ j : Fin 2048, (arg8.view.read (Elt Ideal) f8) (ix2 0 j) = s.d (2048 * (t / 6) + j.val))
    (e9 : ∀ j : Fin 2048, (arg9.view.read (Elt Ideal) f9) (ix2 0 j) = s.o (2048 * (t / 6) + j.val)) :
    InvD s (t / 6) (arg15.view.read (Elt Ideal) (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) (arg16.view.read (Elt Ideal) (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) := by
  by_cases h2 : condA i
  · have E15 : (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) = (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.1 := by unfold left15; rw [if_pos h2]
    have E16 : (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) = (runA (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16).1.2 := by unfold left16; rw [if_pos h2]
    rw [E15, E16]
    refine ⟨fun y => ?_, fun y hy => ?_⟩
    · rw [runA_bits]
      exact bitS_of _ _ y fun w => e7 w (y 1)
    · rw [runA_rows _ _ _ _ _ _ _ _ _ _ _ _ _ _ _ _ _ _ _ _ _ _ _ _ _ _ _ _ _ _ _ _ _ _ _ _ _ y hy]
      exact rowS_of _ _ _ _ _ _ y (fun w => e7 w (y 1)) (e8 (y 1)) (e9 (y 1))
  · have E15 : (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) = f15 := by unfold left15; rw [if_neg h2]
    have E16 : (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) = f16 := by unfold left16; rw [if_neg h2]
    rw [E15, E16]
    exact inv (by intro h; exact h2 (hc.2 (by omega)))

end Step

end Cert.Proof.KernelIdeal
-- ==== Proof.Windows.lean ====
module

public import proofs.«01_k».proof.Proof.FrameOnly
public import proofs.«01_k».proof.Proof.Step

/-! The windows and the arrays of the kernel over the extended reals: what each window holds at a point. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose)

local notation "𝕄" => MT nD τ sig Unit (Elt Ideal) ℕ (UR sig nD τ) ℕ

/-- A fetched block at a place the fetch moved. -/
theorem fill_at {G : Pipeline.Grid} (w : Window sig G) (t : Fin G.N) (d : w.block.Idx → Elt Ideal w.elt) (c : Dev nD)
    (A : Buf (Elt Ideal) (w.arr.view.loc (c.tc : Thread nD τ))) (y : w.block.Idx) (z : w.shape.Idx) (hk : w.kind = .blocked)
    (hm : ∀ a, (y a).val < w.xsize (G.coords t) a) (hz : ∀ a, (z a).val = w.index t a * w.size a + (y a).val) :
    w.fill (G.coords t) d ((w.blk t).view.read (Elt Ideal) A) y = w.arr.view.read (Elt Ideal) A z := by
  unfold Window.fill
  rw [dif_pos ((w.moved_iff _ _).2 hm)]
  have e : (w.rect t).emb (fun a => ⟨(y a).val, hm a⟩) = z := funext fun a => Fin.ext (by
    rw [w.rect_emb_val t _ a hk, hz a])
  rw [← e]
  rfl

/-- A block that agrees with an array where the write-back moves it. -/
theorem fill_self {G : Pipeline.Grid} (w : Window sig G) (t : Fin G.N) (X : w.block.Idx → Elt Ideal w.elt) (c : Dev nD)
    (A : Buf (Elt Ideal) (w.arr.view.loc (c.tc : Thread nD τ))) (hk : w.kind = .blocked)
    (h : ∀ (y : w.block.Idx) (z : w.shape.Idx), (∀ a, (z a).val = w.index t a * w.size a + (y a).val) → X y = w.arr.view.read (Elt Ideal) A z) :
    w.fill (G.coords t) X ((w.blk t).view.read (Elt Ideal) A) = X := by
  funext y
  by_cases hm : w.moved (G.coords t) y = true
  · have hm' := (w.moved_iff _ _).1 hm
    have hz : ∀ a, ((w.rect t).emb (fun a => ⟨(y a).val, hm' a⟩) a).val = w.index t a * w.size a + (y a).val := fun a =>
      w.rect_emb_val t _ a hk
    rw [fill_at w t X c A y _ hk hm' hz, h y _ hz]
  · unfold Window.fill
    rw [dif_neg hm]

variable (m : (ℓ : Loc nD τ sig) → Buf (Elt Ideal) ℓ) (ρ : Dev nD → PrngReg)

/-- The arrays the windows read. -/
def arr0 (c : Dev nD) : S12x4x3000.Idx → BitVec 32 := V m c (Pipeline.arrRef spec0 0)
def arr1 (c : Dev nD) : S1x3000.Idx → EReal := V m c (Pipeline.arrRef spec0 1)
def arr2 (c : Dev nD) : S1x3000.Idx → EReal := V m c (Pipeline.arrRef spec0 2)
def arr3 (c : Dev nD) : S1x3000.Idx → EReal := V m c (Pipeline.arrRef spec0 3)
def arr4 (c : Dev nD) : S1x3000.Idx → EReal := V m c (Pipeline.arrRef spec0 4)
def arr5 (c : Dev nD) : S12x20480.Idx → BitVec 32 := V m c (Pipeline.arrRef spec0 5)
def arr6 (c : Dev nD) : S1x20480.Idx → EReal := V m c (Pipeline.arrRef spec0 6)
def arr7 (c : Dev nD) : S1x20480.Idx → EReal := V m c (Pipeline.arrRef spec0 7)

/-- A query's place, a database column's place. -/
def row (r : ℕ) : Fin 3000 := ⟨r % 3000, Nat.mod_lt _ (by decide)⟩
def col (r : ℕ) : Fin 20480 := ⟨r % 20480, Nat.mod_lt _ (by decide)⟩

theorem row_val (r : ℕ) (h : r < 3000) : (row r).val = r := Nat.mod_eq_of_lt h
theorem col_val (r : ℕ) (h : r < 20480) : (col r).val = r := Nat.mod_eq_of_lt h

/-- What the kernel reads of a query and of a database column. -/
def src (c : Dev nD) : Src where
  P r w j := arr0 m c (ix3 w j (row r))
  qd r := arr1 m c (ix2 0 (row r))
  qv r := arr2 m c (ix2 0 (row r))
  nq r := arr3 m c (ix2 0 (row r))
  sq r := arr4 m c (ix2 0 (row r))
  A n w := arr5 m c (ix2 w (col n))
  d n := arr6 m c (ix2 0 (col n))
  o n := arr7 m c (ix2 0 (col n))

/-- The result arrays. -/
def resD (c : Dev nD) : S3000x20480.Idx → EReal := fun y => (src m c).dist (y 0).val (y 1).val
def resB (c : Dev nD) : S3000x20480.Idx → EReal := fun y => (src m c).bound (y 0).val (y 1).val
def resE (c : Dev nD) : S3000x20480.Idx → EReal := fun y => (src m c).est (y 0).val (y 1).val

/-- Each window's array at the end. -/
def fin (c : Dev nD) (w : Fin 11) : Buf (Elt Ideal) ((cfg0.win w).arr.view.loc (c.tc : Thread nD τ)) :=
  match w with
  | ⟨0, _⟩ => V m c (Pipeline.arrRef spec0 0)
  | ⟨1, _⟩ => V m c (Pipeline.arrRef spec0 1)
  | ⟨2, _⟩ => V m c (Pipeline.arrRef spec0 2)
  | ⟨3, _⟩ => V m c (Pipeline.arrRef spec0 3)
  | ⟨4, _⟩ => V m c (Pipeline.arrRef spec0 4)
  | ⟨5, _⟩ => V m c (Pipeline.arrRef spec0 5)
  | ⟨6, _⟩ => V m c (Pipeline.arrRef spec0 6)
  | ⟨7, _⟩ => V m c (Pipeline.arrRef spec0 7)
  | ⟨8, _⟩ => resD m c
  | ⟨9, _⟩ => resB m c
  | ⟨10, _⟩ => resE m c

/-- The grid's coordinates and the two guards. -/
theorem grid_facts : ∀ t : Fin grid0.N, (grid0.coords t 0).val = t.val / 6 ∧ (grid0.coords t 1).val = t.val % 6
    ∧ (condA (grid0.coords t) ↔ (grid0.coords t 1).val = 0) ∧ (k0_cond2 (grid0.coords t) = 1#1 ↔ (grid0.coords t 0).val = 0) := by
  decide +kernel

/-- The query windows' blocks while the first database block is in hand. -/
theorem near_0 : ∀ t : Fin grid0.N, t.val < 6 → win0_0.index t 0 = 0 ∧ win0_0.index t 1 = 0 ∧ win0_0.index t 2 = t.val
    ∧ win0_0.xsize (grid0.coords t) 0 = 12 ∧ win0_0.xsize (grid0.coords t) 1 = 4 ∧ win0_0.xsize (grid0.coords t) 2 = min 512 (3000 - 512 * t.val) := by
  decide +kernel
theorem near_1 : ∀ t : Fin grid0.N, t.val < 6 → win0_1.index t 0 = 0 ∧ win0_1.index t 1 = t.val
    ∧ win0_1.xsize (grid0.coords t) 0 = 1 ∧ win0_1.xsize (grid0.coords t) 1 = min 512 (3000 - 512 * t.val) := by
  decide +kernel
theorem near_2 : ∀ t : Fin grid0.N, t.val < 6 → win0_2.index t 0 = 0 ∧ win0_2.index t 1 = t.val
    ∧ win0_2.xsize (grid0.coords t) 0 = 1 ∧ win0_2.xsize (grid0.coords t) 1 = min 512 (3000 - 512 * t.val) := by
  decide +kernel
theorem near_3 : ∀ t : Fin grid0.N, t.val < 6 → win0_3.index t 0 = 0 ∧ win0_3.index t 1 = t.val
    ∧ win0_3.xsize (grid0.coords t) 0 = 1 ∧ win0_3.xsize (grid0.coords t) 1 = min 512 (3000 - 512 * t.val) := by
  decide +kernel
theorem near_4 : ∀ t : Fin grid0.N, t.val < 6 → win0_4.index t 0 = 0 ∧ win0_4.index t 1 = t.val
    ∧ win0_4.xsize (grid0.coords t) 0 = 1 ∧ win0_4.xsize (grid0.coords t) 1 = min 512 (3000 - 512 * t.val) := by
  decide +kernel
theorem near_5 : ∀ t : Fin grid0.N, win0_5.index t 0 = 0 ∧ win0_5.index t 1 = t.val / 6 := by
  decide +kernel
theorem near_6 : ∀ t : Fin grid0.N, win0_6.index t 0 = 0 ∧ win0_6.index t 1 = t.val / 6 := by
  decide +kernel
theorem near_7 : ∀ t : Fin grid0.N, win0_7.index t 0 = 0 ∧ win0_7.index t 1 = t.val / 6 := by
  decide +kernel
theorem near_8 : ∀ t : Fin grid0.N, win0_8.index t 0 = t.val % 6 ∧ win0_8.index t 1 = t.val / 6
    ∧ win0_8.xsize (grid0.coords t) 0 = min 512 (3000 - 512 * (t.val % 6)) ∧ win0_8.xsize (grid0.coords t) 1 = 2048 := by
  decide +kernel
theorem near_9 : ∀ t : Fin grid0.N, win0_9.index t 0 = t.val % 6 ∧ win0_9.index t 1 = t.val / 6
    ∧ win0_9.xsize (grid0.coords t) 0 = min 512 (3000 - 512 * (t.val % 6)) ∧ win0_9.xsize (grid0.coords t) 1 = 2048 := by
  decide +kernel
theorem near_10 : ∀ t : Fin grid0.N, win0_10.index t 0 = t.val % 6 ∧ win0_10.index t 1 = t.val / 6
    ∧ win0_10.xsize (grid0.coords t) 0 = min 512 (3000 - 512 * (t.val % 6)) ∧ win0_10.xsize (grid0.coords t) 1 = 2048 := by
  decide +kernel

/-- The query codes' window. -/
theorem block_0 (c : Dev nD) (t : Fin grid0.N) (ht : t.val < 6) (d : S12x4x512.Idx → BitVec 32) (w : Fin 12) (j : Fin 4) (r : Fin 512)
    (hr : 512 * t.val + r.val < 3000) :
    win0_0.fill (grid0.coords t) d ((win0_0.blk t).view.read (Elt Ideal) (V m c (Pipeline.arrRef spec0 0))) (ix3 w j r)
      = (src m c).P (512 * t.val + r.val) w j := by
  obtain ⟨i0, i1, i2, x0, x1, x2⟩ := near_0 t ht
  refine fill_at win0_0 t d c _ (ix3 w j r) (ix3 w j (row (512 * t.val + r.val))) rfl (fun a => ?_) (fun a => ?_)
  · match a with
    | ⟨0, _⟩ => exact lt_of_lt_of_eq w.isLt x0.symm
    | ⟨1, _⟩ => exact lt_of_lt_of_eq j.isLt x1.symm
    | ⟨2, _⟩ => exact lt_of_lt_of_eq (show r.val < min 512 (3000 - 512 * t.val) by have := r.isLt; omega) x2.symm
  · match a with
    | ⟨0, _⟩ => show w.val = win0_0.index t 0 * 12 + w.val; rw [i0]; omega
    | ⟨1, _⟩ => show j.val = win0_0.index t 1 * 4 + j.val; rw [i1]; omega
    | ⟨2, _⟩ => show (row (512 * t.val + r.val)).val = win0_0.index t 2 * 512 + r.val; rw [i2, row_val _ hr]; omega

theorem block_1 (c : Dev nD) (t : Fin grid0.N) (ht : t.val < 6) (d : S1x512.Idx → EReal) (r : Fin 512) (hr : 512 * t.val + r.val < 3000) :
    win0_1.fill (grid0.coords t) d ((win0_1.blk t).view.read (Elt Ideal) (V m c (Pipeline.arrRef spec0 1))) (ix2 0 r)
      = (src m c).qd (512 * t.val + r.val) := by
  obtain ⟨i0, i1, x0, x1⟩ := near_1 t ht
  refine fill_at win0_1 t d c _ (ix2 0 r) (ix2 0 (row (512 * t.val + r.val))) rfl (fun a => ?_) (fun a => ?_)
  · match a with
    | ⟨0, _⟩ => exact lt_of_lt_of_eq (show (0 : ℕ) < 1 by omega) x0.symm
    | ⟨1, _⟩ => exact lt_of_lt_of_eq (show r.val < min 512 (3000 - 512 * t.val) by have := r.isLt; omega) x1.symm
  · match a with
    | ⟨0, _⟩ => show (0 : ℕ) = win0_1.index t 0 * 1 + 0; rw [i0]
    | ⟨1, _⟩ => show (row (512 * t.val + r.val)).val = win0_1.index t 1 * 512 + r.val; rw [i1, row_val _ hr]; omega

theorem block_2 (c : Dev nD) (t : Fin grid0.N) (ht : t.val < 6) (d : S1x512.Idx → EReal) (r : Fin 512) (hr : 512 * t.val + r.val < 3000) :
    win0_2.fill (grid0.coords t) d ((win0_2.blk t).view.read (Elt Ideal) (V m c (Pipeline.arrRef spec0 2))) (ix2 0 r)
      = (src m c).qv (512 * t.val + r.val) := by
  obtain ⟨i0, i1, x0, x1⟩ := near_2 t ht
  refine fill_at win0_2 t d c _ (ix2 0 r) (ix2 0 (row (512 * t.val + r.val))) rfl (fun a => ?_) (fun a => ?_)
  · match a with
    | ⟨0, _⟩ => exact lt_of_lt_of_eq (show (0 : ℕ) < 1 by omega) x0.symm
    | ⟨1, _⟩ => exact lt_of_lt_of_eq (show r.val < min 512 (3000 - 512 * t.val) by have := r.isLt; omega) x1.symm
  · match a with
    | ⟨0, _⟩ => show (0 : ℕ) = win0_2.index t 0 * 1 + 0; rw [i0]
    | ⟨1, _⟩ => show (row (512 * t.val + r.val)).val = win0_2.index t 1 * 512 + r.val; rw [i1, row_val _ hr]; omega

theorem block_3 (c : Dev nD) (t : Fin grid0.N) (ht : t.val < 6) (d : S1x512.Idx → EReal) (r : Fin 512) (hr : 512 * t.val + r.val < 3000) :
    win0_3.fill (grid0.coords t) d ((win0_3.blk t).view.read (Elt Ideal) (V m c (Pipeline.arrRef spec0 3))) (ix2 0 r)
      = (src m c).nq (512 * t.val + r.val) := by
  obtain ⟨i0, i1, x0, x1⟩ := near_3 t ht
  refine fill_at win0_3 t d c _ (ix2 0 r) (ix2 0 (row (512 * t.val + r.val))) rfl (fun a => ?_) (fun a => ?_)
  · match a with
    | ⟨0, _⟩ => exact lt_of_lt_of_eq (show (0 : ℕ) < 1 by omega) x0.symm
    | ⟨1, _⟩ => exact lt_of_lt_of_eq (show r.val < min 512 (3000 - 512 * t.val) by have := r.isLt; omega) x1.symm
  · match a with
    | ⟨0, _⟩ => show (0 : ℕ) = win0_3.index t 0 * 1 + 0; rw [i0]
    | ⟨1, _⟩ => show (row (512 * t.val + r.val)).val = win0_3.index t 1 * 512 + r.val; rw [i1, row_val _ hr]; omega

theorem block_4 (c : Dev nD) (t : Fin grid0.N) (ht : t.val < 6) (d : S1x512.Idx → EReal) (r : Fin 512) (hr : 512 * t.val + r.val < 3000) :
    win0_4.fill (grid0.coords t) d ((win0_4.blk t).view.read (Elt Ideal) (V m c (Pipeline.arrRef spec0 4))) (ix2 0 r)
      = (src m c).sq (512 * t.val + r.val) := by
  obtain ⟨i0, i1, x0, x1⟩ := near_4 t ht
  refine fill_at win0_4 t d c _ (ix2 0 r) (ix2 0 (row (512 * t.val + r.val))) rfl (fun a => ?_) (fun a => ?_)
  · match a with
    | ⟨0, _⟩ => exact lt_of_lt_of_eq (show (0 : ℕ) < 1 by omega) x0.symm
    | ⟨1, _⟩ => exact lt_of_lt_of_eq (show r.val < min 512 (3000 - 512 * t.val) by have := r.isLt; omega) x1.symm
  · match a with
    | ⟨0, _⟩ => show (0 : ℕ) = win0_4.index t 0 * 1 + 0; rw [i0]
    | ⟨1, _⟩ => show (row (512 * t.val + r.val)).val = win0_4.index t 1 * 512 + r.val; rw [i1, row_val _ hr]; omega

theorem block_5 (c : Dev nD) (t : Fin grid0.N) (w : Fin 12) (r : Fin 2048) :
    iblk (F := Ideal) m c 5 t (ix2 w r) = (src m c).A (2048 * (t.val / 6) + r.val) w := by
  obtain ⟨i0, i1⟩ := near_5 t
  have ht : t.val < 60 := lt_of_lt_of_eq t.isLt N_0
  have hr := r.isLt
  have e : (win0_5.rect t).emb (ix2 w r) = ix2 w (col (2048 * (t.val / 6) + r.val)) := funext fun a => Fin.ext (by
    rw [win0_5.rect_emb_val t _ a rfl]
    match a with
    | ⟨0, _⟩ => show win0_5.index t 0 * 12 + w.val = w.val; rw [i0]; omega
    | ⟨1, _⟩ => show win0_5.index t 1 * 2048 + r.val = (col (2048 * (t.val / 6) + r.val)).val; rw [i1, col_val _ (by omega)]; omega)
  exact congrArg (arr5 m c) e

theorem block_6 (c : Dev nD) (t : Fin grid0.N) (r : Fin 2048) :
    iblk (F := Ideal) m c 6 t (ix2 0 r) = (src m c).d (2048 * (t.val / 6) + r.val)  := by
  obtain ⟨i0, i1⟩ := near_6 t
  have ht : t.val < 60 := lt_of_lt_of_eq t.isLt N_0
  have hr := r.isLt
  have e : (win0_6.rect t).emb (ix2 0 r) = ix2 0 (col (2048 * (t.val / 6) + r.val)) := funext fun a => Fin.ext (by
    rw [win0_6.rect_emb_val t _ a rfl]
    match a with
    | ⟨0, _⟩ => show win0_6.index t 0 * 1 + 0 = 0; rw [i0]
    | ⟨1, _⟩ => show win0_6.index t 1 * 2048 + r.val = (col (2048 * (t.val / 6) + r.val)).val; rw [i1, col_val _ (by omega)]; omega)
  exact congrArg (arr6 m c) e

theorem block_7 (c : Dev nD) (t : Fin grid0.N) (r : Fin 2048) :
    iblk (F := Ideal) m c 7 t (ix2 0 r) = (src m c).o (2048 * (t.val / 6) + r.val)  := by
  obtain ⟨i0, i1⟩ := near_7 t
  have ht : t.val < 60 := lt_of_lt_of_eq t.isLt N_0
  have hr := r.isLt
  have e : (win0_7.rect t).emb (ix2 0 r) = ix2 0 (col (2048 * (t.val / 6) + r.val)) := funext fun a => Fin.ext (by
    rw [win0_7.rect_emb_val t _ a rfl]
    match a with
    | ⟨0, _⟩ => show win0_7.index t 0 * 1 + 0 = 0; rw [i0]
    | ⟨1, _⟩ => show win0_7.index t 1 * 2048 + r.val = (col (2048 * (t.val / 6) + r.val)).val; rw [i1, col_val _ (by omega)]; omega)
  exact congrArg (arr7 m c) e

theorem block_8 (c : Dev nD) (t : Fin grid0.N) (X : S512x2048.Idx → EReal)
    (h : ∀ y : S512x2048.Idx, 512 * (t.val % 6) + (y 0).val < 3000 → X y = (src m c).dist (512 * (t.val % 6) + (y 0).val) (2048 * (t.val / 6) + (y 1).val)) :
    win0_8.fill (grid0.coords t) X ((win0_8.blk t).view.read (Elt Ideal) (fin m c 8)) = X := by
  obtain ⟨i0, i1, -, -⟩ := near_8 t
  refine fill_self win0_8 t X c (fin m c 8) rfl fun y z hz => ?_
  have h0 := hz 0
  have h1 := hz 1
  rw [i0] at h0
  rw [i1] at h1
  change (z 0).val = t.val % 6 * 512 + (y 0).val at h0
  change (z 1).val = t.val / 6 * 2048 + (y 1).val at h1
  have hz0 : (z 0).val < 3000 := (z 0).isLt
  refine (h y (by omega)).trans ?_
  show _ = (src m c).dist (z 0).val (z 1).val
  rw [h0, h1, Nat.mul_comm 512, Nat.mul_comm 2048]

theorem cover_8 (y : S3000x20480.Idx) : ∃ t : Fin cfg0.N, (cfg0.win 8).flush t = true ∧ y ∈ ((cfg0.win 8).blk t).view.set := by
  have h0 : (y 0).val < 3000 := (y 0).isLt
  have h1 : (y 1).val < 20480 := (y 1).isLt
  obtain ⟨t, ht⟩ : ∃ t : Fin grid0.N, t.val = 6 * ((y 1).val / 2048) + (y 0).val / 512 :=
    ⟨⟨6 * ((y 1).val / 2048) + (y 0).val / 512, lt_of_lt_of_eq (by omega) N_0.symm⟩, rfl⟩
  obtain ⟨i0, i1, x0, x1⟩ := near_8 t
  refine ⟨t, flush0_8 t, ?_⟩
  show y ∈ ((View.whole main_v8_0).slice (win0_8.rect t)).set
  rw [View.set_slice_whole, Rect.mem_set_unit]
  intro a
  match a with
  | ⟨0, _⟩ =>
    show win0_8.index t 0 * 512 ≤ (y 0).val ∧ (y 0).val < win0_8.index t 0 * 512 + win0_8.xsize (grid0.coords t) 0
    rw [i0, x0]; omega
  | ⟨1, _⟩ =>
    show win0_8.index t 1 * 2048 ≤ (y 1).val ∧ (y 1).val < win0_8.index t 1 * 2048 + win0_8.xsize (grid0.coords t) 1
    rw [i1, x1]; omega

theorem block_9 (c : Dev nD) (t : Fin grid0.N) (X : S512x2048.Idx → EReal)
    (h : ∀ y : S512x2048.Idx, 512 * (t.val % 6) + (y 0).val < 3000 → X y = (src m c).bound (512 * (t.val % 6) + (y 0).val) (2048 * (t.val / 6) + (y 1).val)) :
    win0_9.fill (grid0.coords t) X ((win0_9.blk t).view.read (Elt Ideal) (fin m c 9)) = X := by
  obtain ⟨i0, i1, -, -⟩ := near_9 t
  refine fill_self win0_9 t X c (fin m c 9) rfl fun y z hz => ?_
  have h0 := hz 0
  have h1 := hz 1
  rw [i0] at h0
  rw [i1] at h1
  change (z 0).val = t.val % 6 * 512 + (y 0).val at h0
  change (z 1).val = t.val / 6 * 2048 + (y 1).val at h1
  have hz0 : (z 0).val < 3000 := (z 0).isLt
  refine (h y (by omega)).trans ?_
  show _ = (src m c).bound (z 0).val (z 1).val
  rw [h0, h1, Nat.mul_comm 512, Nat.mul_comm 2048]

theorem cover_9 (y : S3000x20480.Idx) : ∃ t : Fin cfg0.N, (cfg0.win 9).flush t = true ∧ y ∈ ((cfg0.win 9).blk t).view.set := by
  have h0 : (y 0).val < 3000 := (y 0).isLt
  have h1 : (y 1).val < 20480 := (y 1).isLt
  obtain ⟨t, ht⟩ : ∃ t : Fin grid0.N, t.val = 6 * ((y 1).val / 2048) + (y 0).val / 512 :=
    ⟨⟨6 * ((y 1).val / 2048) + (y 0).val / 512, lt_of_lt_of_eq (by omega) N_0.symm⟩, rfl⟩
  obtain ⟨i0, i1, x0, x1⟩ := near_9 t
  refine ⟨t, flush0_9 t, ?_⟩
  show y ∈ ((View.whole main_v8_1).slice (win0_9.rect t)).set
  rw [View.set_slice_whole, Rect.mem_set_unit]
  intro a
  match a with
  | ⟨0, _⟩ =>
    show win0_9.index t 0 * 512 ≤ (y 0).val ∧ (y 0).val < win0_9.index t 0 * 512 + win0_9.xsize (grid0.coords t) 0
    rw [i0, x0]; omega
  | ⟨1, _⟩ =>
    show win0_9.index t 1 * 2048 ≤ (y 1).val ∧ (y 1).val < win0_9.index t 1 * 2048 + win0_9.xsize (grid0.coords t) 1
    rw [i1, x1]; omega

theorem block_10 (c : Dev nD) (t : Fin grid0.N) (X : S512x2048.Idx → EReal)
    (h : ∀ y : S512x2048.Idx, 512 * (t.val % 6) + (y 0).val < 3000 → X y = (src m c).est (512 * (t.val % 6) + (y 0).val) (2048 * (t.val / 6) + (y 1).val)) :
    win0_10.fill (grid0.coords t) X ((win0_10.blk t).view.read (Elt Ideal) (fin m c 10)) = X := by
  obtain ⟨i0, i1, -, -⟩ := near_10 t
  refine fill_self win0_10 t X c (fin m c 10) rfl fun y z hz => ?_
  have h0 := hz 0
  have h1 := hz 1
  rw [i0] at h0
  rw [i1] at h1
  change (z 0).val = t.val % 6 * 512 + (y 0).val at h0
  change (z 1).val = t.val / 6 * 2048 + (y 1).val at h1
  have hz0 : (z 0).val < 3000 := (z 0).isLt
  refine (h y (by omega)).trans ?_
  show _ = (src m c).est (z 0).val (z 1).val
  rw [h0, h1, Nat.mul_comm 512, Nat.mul_comm 2048]

theorem cover_10 (y : S3000x20480.Idx) : ∃ t : Fin cfg0.N, (cfg0.win 10).flush t = true ∧ y ∈ ((cfg0.win 10).blk t).view.set := by
  have h0 : (y 0).val < 3000 := (y 0).isLt
  have h1 : (y 1).val < 20480 := (y 1).isLt
  obtain ⟨t, ht⟩ : ∃ t : Fin grid0.N, t.val = 6 * ((y 1).val / 2048) + (y 0).val / 512 :=
    ⟨⟨6 * ((y 1).val / 2048) + (y 0).val / 512, lt_of_lt_of_eq (by omega) N_0.symm⟩, rfl⟩
  obtain ⟨i0, i1, x0, x1⟩ := near_10 t
  refine ⟨t, flush0_10 t, ?_⟩
  show y ∈ ((View.whole main_v8_2).slice (win0_10.rect t)).set
  rw [View.set_slice_whole, Rect.mem_set_unit]
  intro a
  match a with
  | ⟨0, _⟩ =>
    show win0_10.index t 0 * 512 ≤ (y 0).val ∧ (y 0).val < win0_10.index t 0 * 512 + win0_10.xsize (grid0.coords t) 0
    rw [i0, x0]; omega
  | ⟨1, _⟩ =>
    show win0_10.index t 1 * 2048 ≤ (y 1).val ∧ (y 1).val < win0_10.index t 1 * 2048 + win0_10.xsize (grid0.coords t) 1
    rw [i1, x1]; omega

end Cert.Proof.KernelIdeal
-- ==== Proof.StepAll.lean ====
module

public import proofs.«01_k».proof.Proof.Step

/-! One point of the grid, as a whole. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.ValueIdx

section
variable (c : Dev nD) (i : grid0.Coords) (arg2 : Memref sig .tc .vmem S12x4x512 .i32) (harg2 : arg2.IsWhole) (arg3 : Memref sig .tc .vmem S1x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x512 .f32) (harg6 : arg6.IsWhole) (arg7 : Memref sig .tc .vmem S12x2048 .i32) (harg7 : arg7.IsWhole) (arg8 : Memref sig .tc .vmem S1x2048 .f32) (harg8 : arg8.IsWhole) (arg9 : Memref sig .tc .vmem S1x2048 .f32) (harg9 : arg9.IsWhole) (arg10 : Memref sig .tc .vmem S512x2048 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S6x512x384 .bf16) (harg13 : arg13.IsWhole) (arg14 : Memref sig .tc .vmem S6x4x512x128 .f32) (harg14 : arg14.IsWhole) (arg15 : Memref sig .tc .vmem S384x2048 .bf16) (harg15 : arg15.IsWhole) (arg16 : Memref sig .tc .vmem S8x2048 .f32) (harg16 : arg16.IsWhole) (f2 : Bf (F := Ideal) c arg2) (f3 : Bf (F := Ideal) c arg3) (f4 : Bf (F := Ideal) c arg4) (f5 : Bf (F := Ideal) c arg5) (f6 : Bf (F := Ideal) c arg6) (f7 : Bf (F := Ideal) c arg7) (f8 : Bf (F := Ideal) c arg8) (f9 : Bf (F := Ideal) c arg9) (f10 : Bf (F := Ideal) c arg10) (f11 : Bf (F := Ideal) c arg11) (f12 : Bf (F := Ideal) c arg12) (f13 : Bf (F := Ideal) c arg13) (f14 : Bf (F := Ideal) c arg14) (f15 : Bf (F := Ideal) c arg15) (f16 : Bf (F := Ideal) c arg16)

/-- After a point the query tables hold one block more, the database tables the block in hand, and the three result blocks
    what the sources give of the block's queries and columns. -/
theorem stepAll (s : Src) (t : ℕ) (h0 : (i 0).val = t / 6) (h1 : (i 1).val = t % 6) (hA : condA i ↔ (i 1).val = 0)
    (hB : k0_cond2 i = 1#1 ↔ (i 0).val = 0)
    (inv : InvQ s t (arg13.view.read (Elt Ideal) f13) (arg14.view.read (Elt Ideal) f14))
    (inv' : t % 6 ≠ 0 → InvD s (t / 6) (arg15.view.read (Elt Ideal) f15) (arg16.view.read (Elt Ideal) f16))
    (e2 : t < 6 → ∀ (w : Fin 12) (j : Fin 4) (row : Fin 512), 512 * t + row.val < 3000 → (arg2.view.read (Elt Ideal) f2) (ix3 w j row) = s.P (512 * t + row.val) w j)
    (e3 : t < 6 → ∀ row : Fin 512, 512 * t + row.val < 3000 → (arg3.view.read (Elt Ideal) f3) (ix2 0 row) = s.qd (512 * t + row.val))
    (e4 : t < 6 → ∀ row : Fin 512, 512 * t + row.val < 3000 → (arg4.view.read (Elt Ideal) f4) (ix2 0 row) = s.qv (512 * t + row.val))
    (e5 : t < 6 → ∀ row : Fin 512, 512 * t + row.val < 3000 → (arg5.view.read (Elt Ideal) f5) (ix2 0 row) = s.nq (512 * t + row.val))
    (e6 : t < 6 → ∀ row : Fin 512, 512 * t + row.val < 3000 → (arg6.view.read (Elt Ideal) f6) (ix2 0 row) = s.sq (512 * t + row.val))
    (e7 : ∀ (w : Fin 12) (j : Fin 2048), (arg7.view.read (Elt Ideal) f7) (ix2 w j) = s.A (2048 * (t / 6) + j.val) w)
    (e8 : ∀ j : Fin 2048, (arg8.view.read (Elt Ideal) f8) (ix2 0 j) = s.d (2048 * (t / 6) + j.val))
    (e9 : ∀ j : Fin 2048, (arg9.view.read (Elt Ideal) f9) (ix2 0 j) = s.o (2048 * (t / 6) + j.val)) :
    InvQ s (t + 1) (arg13.view.read (Elt Ideal) (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14)) (arg14.view.read (Elt Ideal) (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14))
    ∧ InvD s (t / 6) (arg15.view.read (Elt Ideal) (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) (arg16.view.read (Elt Ideal) (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16))
    ∧ (∀ y : S512x2048.Idx, 512 * (t % 6) + (y 0).val < 3000 →
        (arg10.view.read (Elt Ideal) ((leftC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).1)) y = s.dist (512 * (t % 6) + (y 0).val) (2048 * (t / 6) + (y 1).val))
    ∧ (∀ y : S512x2048.Idx, 512 * (t % 6) + (y 0).val < 3000 →
        (arg11.view.read (Elt Ideal) ((leftC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.1)) y = s.bound (512 * (t % 6) + (y 0).val) (2048 * (t / 6) + (y 1).val))
    ∧ (∀ y : S512x2048.Idx, 512 * (t % 6) + (y 0).val < 3000 →
        (arg12.view.read (Elt Ideal) ((leftC (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f7 f8 f9 f10 f11 f12 f13 f14 f15 f16).2.2)) y = s.est (512 * (t % 6) + (y 0).val) (2048 * (t / 6) + (y 1).val)) := by
  have SQ := stepQ c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14 s t h0 h1 hB inv e2 e3 e4 e5 e6
  have SD := stepD c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16 s t h0 h1 hA inv' e7 e8 e9
  have hm : (i 1).val < t + 1 := by rw [h1]; omega
  refine ⟨SQ, SD, fun y hy => ?_, fun y hy => ?_, fun y hy => ?_⟩
  · refine (congrFun (runC_dist c i arg2 harg2 arg3 harg3 arg4 harg4 arg5 harg5 arg6 harg6 arg7 harg7 arg8 harg8 arg9 harg9 arg10 harg10 arg11 harg11 arg12 harg12 arg13 harg13 arg14 harg14 arg15 harg15 arg16 harg16 f10 f11 f12 (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) y).trans ((dist_of s (t + 1) (t / 6) (i 1) hm _ _ _ _ SQ SD y (by rw [h1]; exact hy)).trans ?_)
    rw [h1]
  · refine (congrFun (runC_bound c i arg2 harg2 arg3 harg3 arg4 harg4 arg5 harg5 arg6 harg6 arg7 harg7 arg8 harg8 arg9 harg9 arg10 harg10 arg11 harg11 arg12 harg12 arg13 harg13 arg14 harg14 arg15 harg15 arg16 harg16 f10 f11 f12 (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) y).trans ((bound_of s (t + 1) (t / 6) (i 1) hm _ _ _ _ SQ SD y (by rw [h1]; exact hy)).trans ?_)
    rw [h1]
  · refine (congrFun (runC_est c i arg2 harg2 arg3 harg3 arg4 harg4 arg5 harg5 arg6 harg6 arg7 harg7 arg8 harg8 arg9 harg9 arg10 harg10 arg11 harg11 arg12 harg12 arg13 harg13 arg14 harg14 arg15 harg15 arg16 harg16 f10 f11 f12 (left13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f2 f3 f4 f5 f6 f13 f14) (left15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16) (left16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 f7 f8 f9 f15 f16)) y).trans ((est_of s (t + 1) (t / 6) (i 1) hm _ _ _ _ SQ SD y (by rw [h1]; exact hy)).trans ?_)
    rw [h1]

end

end Cert.Proof.KernelIdeal
-- ==== Proof.Value.lean ====
module

public import proofs.«01_k».proof.Proof.Windows
public import proofs.«01_k».proof.Proof.StepAll

/-! The run of the kernel over the extended reals: what its three result arrays hold at its end. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation BodyObligationLoose)

local notation "𝕄" => MT nD τ sig Unit (Elt Ideal) ℕ (UR sig nD τ) ℕ

variable (m : (ℓ : Loc nD τ sig) → Buf (Elt Ideal) ℓ) (ρ : Dev nD → PrngReg)

/-- The scratch between points. -/
def inv (c : Dev nD) (t : ℕ) (g13 : Bf (F := Ideal) c (Memref.whole cc0_scratch0)) (g14 : Bf (F := Ideal) c (Memref.whole cc0_scratch1))
    (g15 : Bf (F := Ideal) c (Memref.whole cc0_scratch2)) (g16 : Bf (F := Ideal) c (Memref.whole cc0_scratch3)) : Prop :=
  InvQ (src m c) t ((Memref.whole cc0_scratch0).view.read (Elt Ideal) g13) ((Memref.whole cc0_scratch1).view.read (Elt Ideal) g14)
  ∧ (t % 6 ≠ 0 → InvD (src m c) (t / 6) ((Memref.whole cc0_scratch2).view.read (Elt Ideal) g15) ((Memref.whole cc0_scratch3).view.read (Elt Ideal) g16))

/-- What the kernel holds beside its windows before a point. -/
def phi (c : Dev nD) (t : ℕ) : sProp 𝕄 :=
  iprop((∃ g13 g14 g15 g16, ⌜inv m c t g13 g14 g15 g16⌝ ∗ pt c (Memref.whole cc0_scratch0) g13 ∗ pt c (Memref.whole cc0_scratch1) g14
    ∗ pt c (Memref.whole cc0_scratch2) g15 ∗ pt c (Memref.whole cc0_scratch3) g16) ∗ (∃ ρ : PrngReg, prngReg c ρ))

/-- The proof data. -/
def vdats (_ : Fin 1) (c : Dev nD) : Dat τ (Elt Ideal) Unit ℕ (UR sig nD τ) ℕ cfg0 c where
  A w := V m c (Pipeline.arrRef spec0 w)
  after w t := (cfg0.win w).fill (cfg0.grid.coords t) (Dat.unnamed w t) (((cfg0.win w).blk t).view.read (Elt Ideal) (fin m c w))
  Φ t := phi m c t.val
  q _ := fullShare
  owed _ := 0

/-- What the body leaves of a window, cut to what a transfer moves. -/
theorem cut_after (c : Dev nD) (w : Fin 11) (t : Fin cfg0.N) :
    (cfg0.win w).cut (cfg0.grid.coords t) ((vdats m 0 c).after w t) = ((cfg0.win w).blk t).view.read (Elt Ideal) (fin m c w) :=
  Window.cut_fill _ _ _ _

/-- An input window holds what a fetch there puts in it. -/
theorem before_0 (c : Dev nD) (t : Fin cfg0.N) (d) : (vdats m 0 c).before 0 t d = (cfg0.win 0).fill (cfg0.grid.coords t) d (iblk m c 0 t) :=
  (vdats m 0 c).before_in_eq_fetched 0 rfl (fun _ => rfl)
    (fun t t' h => funext fun a => congrArg (fun k => Pipeline.Clip.of k (win0_0.size a) (win0_0.shape.size a)) (congrFun h a))
    (fun t => cut_after m c 0 t) t d
theorem before_1 (c : Dev nD) (t : Fin cfg0.N) (d) : (vdats m 0 c).before 1 t d = (cfg0.win 1).fill (cfg0.grid.coords t) d (iblk m c 1 t) :=
  (vdats m 0 c).before_in_eq_fetched 1 rfl (fun _ => rfl)
    (fun t t' h => funext fun a => congrArg (fun k => Pipeline.Clip.of k (win0_1.size a) (win0_1.shape.size a)) (congrFun h a))
    (fun t => cut_after m c 1 t) t d
theorem before_2 (c : Dev nD) (t : Fin cfg0.N) (d) : (vdats m 0 c).before 2 t d = (cfg0.win 2).fill (cfg0.grid.coords t) d (iblk m c 2 t) :=
  (vdats m 0 c).before_in_eq_fetched 2 rfl (fun _ => rfl)
    (fun t t' h => funext fun a => congrArg (fun k => Pipeline.Clip.of k (win0_2.size a) (win0_2.shape.size a)) (congrFun h a))
    (fun t => cut_after m c 2 t) t d
theorem before_3 (c : Dev nD) (t : Fin cfg0.N) (d) : (vdats m 0 c).before 3 t d = (cfg0.win 3).fill (cfg0.grid.coords t) d (iblk m c 3 t) :=
  (vdats m 0 c).before_in_eq_fetched 3 rfl (fun _ => rfl)
    (fun t t' h => funext fun a => congrArg (fun k => Pipeline.Clip.of k (win0_3.size a) (win0_3.shape.size a)) (congrFun h a))
    (fun t => cut_after m c 3 t) t d
theorem before_4 (c : Dev nD) (t : Fin cfg0.N) (d) : (vdats m 0 c).before 4 t d = (cfg0.win 4).fill (cfg0.grid.coords t) d (iblk m c 4 t) :=
  (vdats m 0 c).before_in_eq_fetched 4 rfl (fun _ => rfl)
    (fun t t' h => funext fun a => congrArg (fun k => Pipeline.Clip.of k (win0_4.size a) (win0_4.shape.size a)) (congrFun h a))
    (fun t => cut_after m c 4 t) t d
theorem before_5 (c : Dev nD) (t : Fin cfg0.N) (d) : (vdats m 0 c).before 5 t d = (cfg0.win 5).fill (cfg0.grid.coords t) d (iblk m c 5 t) :=
  (vdats m 0 c).before_in_eq_fetched 5 rfl (fun _ => rfl)
    (fun t t' h => rfl)
    (fun t => cut_after m c 5 t) t d
theorem before_6 (c : Dev nD) (t : Fin cfg0.N) (d) : (vdats m 0 c).before 6 t d = (cfg0.win 6).fill (cfg0.grid.coords t) d (iblk m c 6 t) :=
  (vdats m 0 c).before_in_eq_fetched 6 rfl (fun _ => rfl)
    (fun t t' h => rfl)
    (fun t => cut_after m c 6 t) t d
theorem before_7 (c : Dev nD) (t : Fin cfg0.N) (d) : (vdats m 0 c).before 7 t d = (cfg0.win 7).fill (cfg0.grid.coords t) d (iblk m c 7 t) :=
  (vdats m 0 c).before_in_eq_fetched 7 rfl (fun _ => rfl)
    (fun t t' h => rfl)
    (fun t => cut_after m c 7 t) t d

set_option maxHeartbeats 4000000 in
theorem vbody (c : Dev nD) : BodyObligationLoose (vdats m 0 c) (defs₀ (F := Ideal)) Variants.none () Set.univ := by
  intro t
  rw [bigSep_W0, bigSep_W0]
  dsimp only
  rw [show (vdats m 0 c).Φ t.castSucc = phi m c t.val from rfl, show (vdats m 0 c).Φ t.succ = phi m c (t.val + 1) from rfl,
    show (vdats m 0 c).owesAt () t.succ = (vdats m 0 c).owesAt () t.castSucc from rfl]
  unfold phi
  obtain ⟨g0, g1, gA, g2⟩ := grid_facts t
  iintro ⟨⟨⟨%g13, %g14, %g15, %g16, %hinv, H13, H14, H15, H16⟩, Hr⟩, Ho, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave H2 := (Entails.of_eq (owns_isWhole_eq (F := Ideal) (M := stage0_0 (cfg0.slots t 0)) c (hstage0_0 ((cfg0.slots t 0).cast nbuf0_0)) fullShare _)) $$ H2
  icases H2 with ⟨%f2, %h2, H2⟩
  ihave H3 := (Entails.of_eq (owns_isWhole_eq (F := Ideal) (M := stage0_1 (cfg0.slots t 1)) c (hstage0_1 ((cfg0.slots t 1).cast nbuf0_1)) fullShare _)) $$ H3
  icases H3 with ⟨%f3, %h3, H3⟩
  ihave H4 := (Entails.of_eq (owns_isWhole_eq (F := Ideal) (M := stage0_2 (cfg0.slots t 2)) c (hstage0_2 ((cfg0.slots t 2).cast nbuf0_2)) fullShare _)) $$ H4
  icases H4 with ⟨%f4, %h4, H4⟩
  ihave H5 := (Entails.of_eq (owns_isWhole_eq (F := Ideal) (M := stage0_3 (cfg0.slots t 3)) c (hstage0_3 ((cfg0.slots t 3).cast nbuf0_3)) fullShare _)) $$ H5
  icases H5 with ⟨%f5, %h5, H5⟩
  ihave H6 := (Entails.of_eq (owns_isWhole_eq (F := Ideal) (M := stage0_4 (cfg0.slots t 4)) c (hstage0_4 ((cfg0.slots t 4).cast nbuf0_4)) fullShare _)) $$ H6
  icases H6 with ⟨%f6, %h6, H6⟩
  ihave H7 := (Entails.of_eq (owns_isWhole_eq (F := Ideal) (M := stage0_5 (cfg0.slots t 5)) c (hstage0_5 ((cfg0.slots t 5).cast nbuf0_5)) fullShare _)) $$ H7
  icases H7 with ⟨%f7, %h7, H7⟩
  ihave H8 := (Entails.of_eq (owns_isWhole_eq (F := Ideal) (M := stage0_6 (cfg0.slots t 6)) c (hstage0_6 ((cfg0.slots t 6).cast nbuf0_6)) fullShare _)) $$ H8
  icases H8 with ⟨%f8, %h8, H8⟩
  ihave H9 := (Entails.of_eq (owns_isWhole_eq (F := Ideal) (M := stage0_7 (cfg0.slots t 7)) c (hstage0_7 ((cfg0.slots t 7).cast nbuf0_7)) fullShare _)) $$ H9
  icases H9 with ⟨%f9, %h9, H9⟩
  ihave H10 := (Entails.of_eq (owns_isWhole_eq (F := Ideal) (M := stage0_8 (cfg0.slots t 8)) c (hstage0_8 ((cfg0.slots t 8).cast nbuf0_8)) fullShare _)) $$ H10
  icases H10 with ⟨%f10, %h10, H10⟩
  ihave H11 := (Entails.of_eq (owns_isWhole_eq (F := Ideal) (M := stage0_9 (cfg0.slots t 9)) c (hstage0_9 ((cfg0.slots t 9).cast nbuf0_9)) fullShare _)) $$ H11
  icases H11 with ⟨%f11, %h11, H11⟩
  ihave H12 := (Entails.of_eq (owns_isWhole_eq (F := Ideal) (M := stage0_10 (cfg0.slots t 10)) c (hstage0_10 ((cfg0.slots t 10).cast nbuf0_10)) fullShare _)) $$ H12
  icases H12 with ⟨%f12, %h12, H12⟩
  rw [before_0 m c t d2] at h2
  rw [before_1 m c t d3] at h3
  rw [before_2 m c t d4] at h4
  rw [before_3 m c t d5] at h5
  rw [before_4 m c t d6] at h6
  rw [before_5 m c t d7] at h7
  rw [before_6 m c t d8] at h8
  rw [before_7 m c t d9] at h9
  have ht6 : t.val % 6 < 6 := Nat.mod_lt _ (by decide)
  obtain ⟨SQ, SD, Y10, Y11, Y12⟩ := stepAll c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 g13 g14 g15 g16 (src m c) t.val g0 g1 gA g2 hinv.1 hinv.2
    (fun ht w j r hr => (congrFun h2 _).trans (block_0 m c t ht d2 w j r hr))
    (fun ht r hr => (congrFun h3 _).trans (block_1 m c t ht d3 r hr))
    (fun ht r hr => (congrFun h4 _).trans (block_2 m c t ht d4 r hr))
    (fun ht r hr => (congrFun h5 _).trans (block_3 m c t ht d5 r hr))
    (fun ht r hr => (congrFun h6 _).trans (block_4 m c t ht d6 r hr))
    (fun w r => (congrFun h7 _).trans (block_5 m c t w r))
    (fun r => (congrFun h8 _).trans (block_6 m c t r))
    (fun r => (congrFun h9 _).trans (block_7 m c t r))
  have F10 := block_8 m c t _ Y10
  have F11 := block_9 m c t _ Y11
  have F12 := block_10 m c t _ Y12
  iapply (body_wp c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 g13 g14 g15 g16 Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iintro ⟨H2, H3, H4, H5, H6, H7, H8, H9, H10, H11, H12, H13, H14, H15, H16⟩
  isplitl [H13 H14 H15 H16 Hr]
  · isplitl [H13 H14 H15 H16]
    · iexists _, _, _, _
      isplitr
      · ipureintro
        refine ⟨SQ, fun h6 => ?_⟩
        rw [show (t.val + 1) / 6 = t.val / 6 by omega]
        exact SD
      isplitl [H13]; · iexact H13
      isplitl [H14]; · iexact H14
      isplitl [H15]; · iexact H15
      iexact H16
    · iexact Hr
  isplitl [Ho]; · iexact Ho
  isplitl [H2]
  · iexists d2
    iapply (Entails.of_eq (owns_isWhole_eq (F := Ideal) (M := stage0_0 (cfg0.slots t 0)) c (hstage0_0 ((cfg0.slots t 0).cast nbuf0_0)) fullShare _).symm)
    iexists f2
    isplitr
    · ipureintro; exact h2.trans (congrArg ((cfg0.win 0).fill (cfg0.grid.coords t) d2) (cut_after m c 0 t).symm)
    iexact H2
  isplitl [H3]
  · iexists d3
    iapply (Entails.of_eq (owns_isWhole_eq (F := Ideal) (M := stage0_1 (cfg0.slots t 1)) c (hstage0_1 ((cfg0.slots t 1).cast nbuf0_1)) fullShare _).symm)
    iexists f3
    isplitr
    · ipureintro; exact h3.trans (congrArg ((cfg0.win 1).fill (cfg0.grid.coords t) d3) (cut_after m c 1 t).symm)
    iexact H3
  isplitl [H4]
  · iexists d4
    iapply (Entails.of_eq (owns_isWhole_eq (F := Ideal) (M := stage0_2 (cfg0.slots t 2)) c (hstage0_2 ((cfg0.slots t 2).cast nbuf0_2)) fullShare _).symm)
    iexists f4
    isplitr
    · ipureintro; exact h4.trans (congrArg ((cfg0.win 2).fill (cfg0.grid.coords t) d4) (cut_after m c 2 t).symm)
    iexact H4
  isplitl [H5]
  · iexists d5
    iapply (Entails.of_eq (owns_isWhole_eq (F := Ideal) (M := stage0_3 (cfg0.slots t 3)) c (hstage0_3 ((cfg0.slots t 3).cast nbuf0_3)) fullShare _).symm)
    iexists f5
    isplitr
    · ipureintro; exact h5.trans (congrArg ((cfg0.win 3).fill (cfg0.grid.coords t) d5) (cut_after m c 3 t).symm)
    iexact H5
  isplitl [H6]
  · iexists d6
    iapply (Entails.of_eq (owns_isWhole_eq (F := Ideal) (M := stage0_4 (cfg0.slots t 4)) c (hstage0_4 ((cfg0.slots t 4).cast nbuf0_4)) fullShare _).symm)
    iexists f6
    isplitr
    · ipureintro; exact h6.trans (congrArg ((cfg0.win 4).fill (cfg0.grid.coords t) d6) (cut_after m c 4 t).symm)
    iexact H6
  isplitl [H7]
  · iapply (Entails.of_eq (owns_isWhole_eq (F := Ideal) (M := stage0_5 (cfg0.slots t 5)) c (hstage0_5 ((cfg0.slots t 5).cast nbuf0_5)) fullShare _).symm)
    iexists f7
    isplitr
    · ipureintro; exact h7
    iexact H7
  isplitl [H8]
  · iapply (Entails.of_eq (owns_isWhole_eq (F := Ideal) (M := stage0_6 (cfg0.slots t 6)) c (hstage0_6 ((cfg0.slots t 6).cast nbuf0_6)) fullShare _).symm)
    iexists f8
    isplitr
    · ipureintro; exact h8
    iexact H8
  isplitl [H9]
  · iapply (Entails.of_eq (owns_isWhole_eq (F := Ideal) (M := stage0_7 (cfg0.slots t 7)) c (hstage0_7 ((cfg0.slots t 7).cast nbuf0_7)) fullShare _).symm)
    iexists f9
    isplitr
    · ipureintro; exact h9
    iexact H9
  isplitl [H10]
  · iexists _
    iapply (Entails.of_eq (owns_isWhole_eq (F := Ideal) (M := stage0_8 (cfg0.slots t 8)) c (hstage0_8 ((cfg0.slots t 8).cast nbuf0_8)) fullShare _).symm)
    iexists _
    isplitr
    · ipureintro; exact F10.symm.trans (congrArg ((cfg0.win 8).fill (cfg0.grid.coords t) _) (cut_after m c 8 t).symm)
    iexact H10
  isplitl [H11]
  · iexists _
    iapply (Entails.of_eq (owns_isWhole_eq (F := Ideal) (M := stage0_9 (cfg0.slots t 9)) c (hstage0_9 ((cfg0.slots t 9).cast nbuf0_9)) fullShare _).symm)
    iexists _
    isplitr
    · ipureintro; exact F11.symm.trans (congrArg ((cfg0.win 9).fill (cfg0.grid.coords t) _) (cut_after m c 9 t).symm)
    iexact H11
  iexists _
  iapply (Entails.of_eq (owns_isWhole_eq (F := Ideal) (M := stage0_10 (cfg0.slots t 10)) c (hstage0_10 ((cfg0.slots t 10).cast nbuf0_10)) fullShare _).symm)
  iexists _
  isplitr
  · ipureintro; exact F12.symm.trans (congrArg ((cfg0.win 10).fill (cfg0.grid.coords t) _) (cut_after m c 10 t).symm)
  iexact H12

/-- The kernel's run: the three result arrays, and every argument as it was. -/
theorem run : θ_run defs (onTc (τ := τ) (main (F := Ideal))) ⟨m, fun _ => 0, ρ⟩ (fun r => ∀ c : Dev nD,
      (r.2.mem ((c.tc : Thread nD τ).loc main_v8_0) = resD m c ∧ r.2.mem ((c.tc : Thread nD τ).loc main_v8_1) = resB m c
      ∧ r.2.mem ((c.tc : Thread nD τ).loc main_v8_2) = resE m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have h := Pipeline.θ_run_frame_track cfgs (vdats m) 0 launch0 (defs₀ (F := Ideal)) Variants.none m ρ (main (F := Ideal))
    (vbody m) (fun c w => by fin_cases w <;> rfl) (fun c t => rfl) (V m) (hmain m Variants.none) (fun c w => rfl)
    (fun c => ?_) (fun c => ?_) (Pipeline.FramePost cfgs (vdats m) 0 (V m)) (fun _ h => h.1)
  · refine (θ_run defs _ _).mono (fun r h c => ?_) h
    refine ⟨⟨((h c).1 8).trans ((vdats m 0 c).arrAt_eq_of_cover 8 (fin m c 8) (fun t _ => cut_after m c 8 t) cover_8),
      ((h c).1 9).trans ((vdats m 0 c).arrAt_eq_of_cover 9 (fin m c 9) (fun t _ => cut_after m c 9 t) cover_9),
      ((h c).1 10).trans ((vdats m 0 c).arrAt_eq_of_cover 10 (fin m c 10) (fun t _ => cut_after m c 10 t) cover_10)⟩, ?_⟩
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩
  · show _ ⊢ phi m c 0
    unfold phi Pipeline.ΦA
    rw [scopedRest0_eq]
    iintro ⟨⟨⟨%g13, H13⟩, ⟨%g14, H14⟩, ⟨%g15, H15⟩, ⟨%g16, H16⟩⟩, Hr⟩
    isplitl [H13 H14 H15 H16]
    · iexists g13, g14, g15, g16
      isplitr
      · ipureintro
        exact ⟨⟨fun y h => absurd h (Nat.not_lt_zero _), fun y h => absurd h (Nat.not_lt_zero _)⟩, fun h => absurd rfl h⟩
      isplitl [H13]; · iexact H13
      isplitl [H14]; · iexact H14
      isplitl [H15]; · iexact H15
      iexact H16
    · iexact Hr
  · show phi m c grid0.N ⊢ _
    unfold phi Pipeline.ΦA
    rw [scopedRest0_eq]
    iintro ⟨⟨%g13, %g14, %g15, %g16, -, H13, H14, H15, H16⟩, Hr⟩
    isplitl [H13 H14 H15 H16]
    · isplitl [H13]; · iexists g13; iexact H13
      isplitl [H14]; · iexists g14; iexact H14
      isplitl [H15]; · iexists g15; iexact H15
      iexists g16; iexact H16
    · iexact Hr

end Cert.Proof.KernelIdeal
-- ==== Proof.Sources.lean ====
module

public import proofs.«01_k».proof.Proof.Windows

/-! The arrays the kernel's windows read, in terms of the arguments. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.ValueIdx

variable (m : (ℓ : Loc nD τ sig) → Buf (Elt Ideal) ℓ)

/-- The arguments. -/
def arg0 (c : Dev nD) : S3000x4x12.Idx → BitVec 32 := m ((c.tc : Thread nD τ).loc main_arg0)
def arg1 (c : Dev nD) : S3000.Idx → EReal := m ((c.tc : Thread nD τ).loc main_arg1)
def arg2 (c : Dev nD) : S3000.Idx → EReal := m ((c.tc : Thread nD τ).loc main_arg2)
def arg3 (c : Dev nD) : S3000.Idx → EReal := m ((c.tc : Thread nD τ).loc main_arg3)
def arg4 (c : Dev nD) : S3000.Idx → EReal := m ((c.tc : Thread nD τ).loc main_arg4)
def arg5 (c : Dev nD) : S20480x12.Idx → BitVec 32 := m ((c.tc : Thread nD τ).loc main_arg5)
def arg6 (c : Dev nD) : S20480.Idx → EReal := m ((c.tc : Thread nD τ).loc main_arg6)
def arg7 (c : Dev nD) : S20480.Idx → EReal := m ((c.tc : Thread nD τ).loc main_arg7)

/-- The transposed codes of the queries and of the database. -/
theorem arr0_at (c : Dev nD) (w : Fin 12) (j : Fin 4) (r : Fin 3000) : arr0 m c (ix3 w j r) = arg0 m c (ix3 r j w) := by
  have e : arr0 m c = transpose S12x4x3000 [2, 1, 0] (arg0 m c) transposes_S3000x4x12_S12x4x3000_2_1_0 := by
    show StableHlo.after hostOps0 _ (Proc.devRef .tc main_v0) = _
    after_results
    rfl
  rw [e]
  exact transpose_apply _ _ transposes_S3000x4x12_S12x4x3000_2_1_0 (ix3 w j r) (ix3 r j w) (fun a => match a with
    | ⟨0, _⟩ => rfl
    | ⟨1, _⟩ => rfl
    | ⟨2, _⟩ => rfl)
theorem arr5_at (c : Dev nD) (w : Fin 12) (n : Fin 20480) : arr5 m c (ix2 w n) = arg5 m c (ix2 n w) := by
  have e : arr5 m c = transpose S12x20480 [1, 0] (arg5 m c) transposes_S20480x12_S12x20480_1_0 := by
    show StableHlo.after hostOps0 _ (Proc.devRef .tc main_v5) = _
    after_results
    rfl
  rw [e]
  exact transpose_apply _ _ transposes_S20480x12_S12x20480_1_0 (ix2 w n) (ix2 n w) (fun a => match a with
    | ⟨0, _⟩ => rfl
    | ⟨1, _⟩ => rfl)

/-- A vector as one row. -/
theorem oneRow_at {n : ℕ} (x : (⟨1, ![n]⟩ : Shape).Idx → EReal) (h : (⟨1, ![n]⟩ : Shape).ShapeCasts ⟨2, ![1, n]⟩) (r : Fin n) :
    shapeCast ⟨2, ![1, n]⟩ x h (ix2 0 r) = x (ix1 r) :=
  shapeCast_apply x h (ix2 0 r) (ix1 r) (by rw [Shape.rowMajor_val_one, Shape.rowMajor_val_two]; show r.val = 0 * n + r.val; omega)

theorem arr1_at (c : Dev nD) (r : Fin 3000) : arr1 m c (ix2 0 r) = arg1 m c (ix1 r) := by
  have e : arr1 m c = shapeCast S1x3000 (arg1 m c) shapeCasts_S3000_S1x3000 := by
    show StableHlo.after hostOps0 _ (Proc.devRef .tc main_v1) = _
    after_results
    rfl
  rw [e]
  exact oneRow_at _ _ r
theorem arr2_at (c : Dev nD) (r : Fin 3000) : arr2 m c (ix2 0 r) = arg2 m c (ix1 r) := by
  have e : arr2 m c = shapeCast S1x3000 (arg2 m c) shapeCasts_S3000_S1x3000 := by
    show StableHlo.after hostOps0 _ (Proc.devRef .tc main_v2) = _
    after_results
    rfl
  rw [e]
  exact oneRow_at _ _ r
theorem arr3_at (c : Dev nD) (r : Fin 3000) : arr3 m c (ix2 0 r) = arg3 m c (ix1 r) := by
  have e : arr3 m c = shapeCast S1x3000 (arg3 m c) shapeCasts_S3000_S1x3000 := by
    show StableHlo.after hostOps0 _ (Proc.devRef .tc main_v3) = _
    after_results
    rfl
  rw [e]
  exact oneRow_at _ _ r
theorem arr4_at (c : Dev nD) (r : Fin 3000) : arr4 m c (ix2 0 r) = arg4 m c (ix1 r) := by
  have e : arr4 m c = shapeCast S1x3000 (arg4 m c) shapeCasts_S3000_S1x3000 := by
    show StableHlo.after hostOps0 _ (Proc.devRef .tc main_v4) = _
    after_results
    rfl
  rw [e]
  exact oneRow_at _ _ r
theorem arr6_at (c : Dev nD) (r : Fin 20480) : arr6 m c (ix2 0 r) = arg6 m c (ix1 r) := by
  have e : arr6 m c = shapeCast S1x20480 (arg6 m c) shapeCasts_S20480_S1x20480 := by
    show StableHlo.after hostOps0 _ (Proc.devRef .tc main_v6) = _
    after_results
    rfl
  rw [e]
  exact oneRow_at _ _ r
theorem arr7_at (c : Dev nD) (r : Fin 20480) : arr7 m c (ix2 0 r) = arg7 m c (ix1 r) := by
  have e : arr7 m c = shapeCast S1x20480 (arg7 m c) shapeCasts_S20480_S1x20480 := by
    show StableHlo.after hostOps0 _ (Proc.devRef .tc main_v7) = _
    after_results
    rfl
  rw [e]
  exact oneRow_at _ _ r

end Cert.Proof.KernelIdeal
-- ==== Proof.Count.lean ====
module

public import proofs.«01_k».proof.Proof.Step
public import proofs.«01_k».proof.Proof.RefRun

/-! Two ways to count: the codes against the bits one dimension at a time, and the words of each plane against the words of the column. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.ValueIdx

/-- The inner product of a query's codes with a column's bits, by planes and words. -/
def ipW (p : Fin 12 → Fin 4 → BitVec 32) (a : Fin 12 → BitVec 32) : ℕ := ∑ j : Fin 4, (∑ w : Fin 12, cnt (p w j &&& a w)) * 2 ^ j.val

theorem planeSum_le (p : Fin 12 → BitVec 32) (a : Fin 12 → BitVec 32) : ∑ w : Fin 12, cnt (p w &&& a w) ≤ 384 := popW_le fun w => p w &&& a w

theorem ipW_le (p : Fin 12 → Fin 4 → BitVec 32) (a : Fin 12 → BitVec 32) : ipW p a ≤ 5760 := by
  unfold ipW
  rw [Fin.sum_univ_four]
  have h0 := planeSum_le (fun w => p w 0) a
  have h1 := planeSum_le (fun w => p w 1) a
  have h2 := planeSum_le (fun w => p w 2) a
  have h3 := planeSum_le (fun w => p w 3) a
  simp only [Fin.val_zero, Fin.val_one, Fin.val_two, show ((3 : Fin 4) : ℕ) = 3 from rfl]
  omega

/-- The places of a word, permuted. -/
def placeE : Fin 32 ≃ Fin 32 := Equiv.ofBijective (fun b => ⟨place b.val, by unfold place; omega⟩) (by
  unfold place
  decide +kernel)

/-- A sum over the dimensions, by words and places. -/
theorem sum_dims (g : Fin 12 → Fin 32 → ℕ) :
    ∑ k : Fin 384, g ⟨k.val / 32, by have := k.isLt; omega⟩ ⟨place k.val, by unfold place; omega⟩ = ∑ w : Fin 12, ∑ b : Fin 32, g w b := by
  rw [← Equiv.sum_comp (finProdFinEquiv : Fin 12 × Fin 32 ≃ Fin 384), Fintype.sum_prod_type]
  refine Finset.sum_congr rfl fun w _ => ?_
  refine Eq.trans ?_ (Equiv.sum_comp placeE (g w))
  refine Finset.sum_congr rfl fun b _ => ?_
  have hv : ((finProdFinEquiv (w, b) : Fin 384) : ℕ) = b.val + 32 * w.val := rfl
  have hb := b.isLt
  congr 1
  · apply Fin.ext
    show ((finProdFinEquiv (w, b) : Fin 384) : ℕ) / 32 = w.val
    rw [hv]; omega
  · apply Fin.ext
    show place ((finProdFinEquiv (w, b) : Fin 384) : ℕ) = place b.val
    rw [hv]
    unfold place
    omega

theorem coe_sum {ι : Type*} (s : Finset ι) (f : ι → ℕ) : ∑ k ∈ s, ((f k : ℝ) : EReal) = (((∑ k ∈ s, f k : ℕ) : ℝ) : EReal) := by
  classical
  induction s using Finset.induction_on with
  | empty => simp
  | insert a s ha ih => rw [Finset.sum_insert ha, Finset.sum_insert ha, ih, ← EReal.coe_add, Nat.cast_add]

theorem coe_two : (2 : EReal) = ((2 : ℝ) : EReal) := rfl

/-- One dimension's term. -/
theorem term_eq (p : Fin 12 → Fin 4 → BitVec 32) (a : Fin 12 → BitVec 32) (k : Fin 384) :
    ((codeW p k : ℝ) : EReal) * bitW a k
      = (((fun (w : Fin 12) (b : Fin 32) => 2 * ∑ j : Fin 4, bitN ((p w j &&& a w).getLsbD b.val) * 2 ^ j.val)
          ⟨k.val / 32, by have := k.isLt; omega⟩ ⟨place k.val, by unfold place; omega⟩ : ℝ) : EReal) := by
  have hb : bitW a k = ((2 * bitN ((a ⟨k.val / 32, by have := k.isLt; omega⟩).getLsbD (place k.val)) : ℝ) : EReal) := by
    unfold bitW bitN
    cases h : (a ⟨k.val / 32, by have := k.isLt; omega⟩).getLsbD (place k.val) <;> simp [coe_two]
  rw [hb, ← EReal.coe_mul]
  refine congrArg (fun x : ℝ => (x : EReal)) ?_
  unfold codeW
  simp only [BitVec.getLsbD_and, Fin.sum_univ_four, Fin.val_zero, Fin.val_one, Fin.val_two, show ((3 : Fin 4) : ℕ) = 3 from rfl]
  generalize (a ⟨k.val / 32, by have := k.isLt; omega⟩).getLsbD (place k.val) = e
  generalize (p ⟨k.val / 32, by have := k.isLt; omega⟩ 0).getLsbD (place k.val) = b0
  generalize (p ⟨k.val / 32, by have := k.isLt; omega⟩ 1).getLsbD (place k.val) = b1
  generalize (p ⟨k.val / 32, by have := k.isLt; omega⟩ 2).getLsbD (place k.val) = b2
  generalize (p ⟨k.val / 32, by have := k.isLt; omega⟩ 3).getLsbD (place k.val) = b3
  cases e
  · simp [bitN]
  · simp only [Bool.and_true, bitN, if_true]
    push_cast
    ring

/-- The two ways agree: the product with the doubled bits is twice the inner product. -/
theorem accW_eq (p : Fin 12 → Fin 4 → BitVec 32) (a : Fin 12 → BitVec 32) : accW p a = ((2 * ipW p a : ℕ) : ℝ) := by
  unfold accW
  rw [Finset.sum_congr rfl fun k _ => term_eq p a k, coe_sum, sum_dims fun w b => 2 * ∑ j : Fin 4, bitN ((p w j &&& a w).getLsbD b.val) * 2 ^ j.val]
  refine congrArg (fun n : ℕ => (((n : ℝ)) : EReal)) ?_
  unfold ipW cnt
  simp only [Fin.sum_univ_four, Finset.sum_mul, Finset.mul_sum, mul_add, Finset.sum_add_distrib]

/-! ### The reference's counts -/

theorem muli_toNat (x y : BitVec 32) (h : x.toNat * y.toNat < 2 ^ 32) : (IntOp.muli x y).toNat = x.toNat * y.toNat := by
  show (x * y).toNat = _
  rw [BitVec.toNat_mul, Nat.mod_eq_of_lt h]

theorem fold_addi_toNat_of {ι : Type*} (s : Finset ι) (f : ι → BitVec 32) (n : ℕ) (hn : ∑ x ∈ s, (f x).toNat = n) (hb : n < 2 ^ 32) :
    (s.fold IntOp.addi 0#32 f).toNat = n := by
  rw [fold_addi_toNat, hn, Nat.mod_eq_of_lt hb]

/-- The set bits of a plane and a column in common. -/
theorem ref_plane (x0 : Cert.ReferenceIdeal.S3000x4x12.Idx → BitVec 32) (x5 : Cert.ReferenceIdeal.S20480x12.Idx → BitVec 32) (r : Fin 3000) (j : Fin 4) (n : Fin 20480) :
    (Cert.ReferenceIdeal.Read.val_main_v7 (F := Ideal) x0 x5 (ix3 r j n)).toNat = ∑ w : Fin 12, cnt (x0 (ix3 r j w) &&& x5 (ix2 n w)) := by
  unfold Cert.ReferenceIdeal.Read.val_main_v7
  refine (congrArg BitVec.toNat ((Host.reduce_eq_fold IntOp.addi _ _ _ _ (ix3 r j n)).trans
    (Shape.ReducesTo.fold_fiber_r4_a3 (n0 := 3000) (n1 := 4) (n2 := 20480) (n3 := 12) _ (ix3 r j n) IntOp.addi _ _))).trans ?_
  have hle := planeSum_le (fun w => x0 (ix3 r j w)) (fun w => x5 (ix2 n w))
  refine fold_addi_toNat_of _ _ _ ?_ (lt_of_le_of_lt hle (by norm_num))
  refine Finset.sum_congr rfl fun w _ => ?_
  rw [Cert.ReferenceIdeal.Read.val_main_v6_apply, Cert.ReferenceIdeal.Read.val_main_v5_apply, Cert.ReferenceIdeal.Read.val_main_v4_apply,
    Cert.ReferenceIdeal.Read.val_main_v2_apply, Cert.ReferenceIdeal.Read.val_main_v0_apply, Cert.ReferenceIdeal.Read.val_main_v3_apply,
    Cert.ReferenceIdeal.Read.val_main_v1_apply]
  rw [ctpop_toNat]
  refine congrArg cnt (congrArg₂ (· &&& ·) (congrArg x0 (funext fun a => ?_)) (congrArg x5 (funext fun a => ?_)))
  · match a with
    | ⟨0, _⟩ => rfl
    | ⟨1, _⟩ => rfl
    | ⟨2, _⟩ => rfl
  · match a with
    | ⟨0, _⟩ => rfl
    | ⟨1, _⟩ => rfl

/-- A plane's weight. -/
theorem ref_weight (r : Fin 3000) (j : Fin 4) (n : Fin 20480) :
    (Cert.ReferenceIdeal.Read.val_main_v12 (F := Ideal) (ix3 r j n)).toNat = 2 ^ j.val := by
  rw [Cert.ReferenceIdeal.Read.val_main_v12_apply, Cert.ReferenceIdeal.Read.val_main_v11_apply, Cert.ReferenceIdeal.Read.val_main_v10_apply,
    Cert.ReferenceIdeal.Read.val_main_v9_apply, Cert.ReferenceIdeal.Read.val_main_v8_apply, Cert.ReferenceIdeal.Read.val_main_c_0_apply]
  show (IntOp.shli .host 1#32 (BitVec.ofNat 32 j.val)).toNat = 2 ^ j.val
  revert j
  decide

/-- The reference's inner product. -/
theorem ref_ip (x0 : Cert.ReferenceIdeal.S3000x4x12.Idx → BitVec 32) (x5 : Cert.ReferenceIdeal.S20480x12.Idx → BitVec 32) (r : Fin 3000) (n : Fin 20480) :
    (Cert.ReferenceIdeal.Read.val_main_v14 (F := Ideal) x0 x5 (ix2 r n)).toInt = (ipW (fun w j => x0 (ix3 r j w)) (fun w => x5 (ix2 n w)) : ℤ) := by
  unfold Cert.ReferenceIdeal.Read.val_main_v14
  refine (congrArg BitVec.toInt ((Host.reduce_eq_fold IntOp.addi _ _ _ _ (ix2 r n)).trans
    (Shape.ReducesTo.fold_fiber_r3_a1 (n0 := 3000) (n1 := 4) (n2 := 20480) _ (ix2 r n) IntOp.addi _ _))).trans ?_
  refine fold_addi_toInt _ _ _ ?_ (lt_of_le_of_lt (ipW_le _ _) (by norm_num))
  unfold ipW
  refine Finset.sum_congr rfl fun j _ => ?_
  rw [Cert.ReferenceIdeal.Read.val_main_v13_apply]
  have h7 := ref_plane x0 x5 r j n
  have h12 := ref_weight r j n
  have hle := planeSum_le (fun w => x0 (ix3 r j w)) (fun w => x5 (ix2 n w))
  refine (muli_toNat _ _ ?_).trans (congrArg₂ (· * ·) h7 h12)
  refine lt_of_eq_of_lt (congrArg₂ (· * ·) h7 h12) ?_
  have : 2 ^ j.val ≤ 2 ^ 4 := Nat.pow_le_pow_right (by norm_num) (by omega)
  calc _ ≤ 384 * 2 ^ 4 := Nat.mul_le_mul hle this
    _ < _ := by norm_num

/-- The reference's count of a column's bits. -/
theorem ref_pop (x5 : Cert.ReferenceIdeal.S20480x12.Idx → BitVec 32) (n : Fin 20480) :
    (Cert.ReferenceIdeal.Read.val_main_v18 (F := Ideal) x5 (ix1 n)).toInt = (popW (fun w => x5 (ix2 n w)) : ℤ) := by
  unfold Cert.ReferenceIdeal.Read.val_main_v18
  refine (congrArg BitVec.toInt ((Host.reduce_eq_fold IntOp.addi _ _ _ _ (ix1 n)).trans
    (Shape.ReducesTo.fold_fiber_r2_a1 (n0 := 20480) (n1 := 12) _ (ix1 n) IntOp.addi _ _))).trans ?_
  refine fold_addi_toInt _ _ _ ?_ (lt_of_le_of_lt (popW_le _) (by norm_num))
  unfold popW
  exact Finset.sum_congr rfl fun w _ => ctpop_toNat _

end Cert.Proof.KernelIdeal
-- ==== Proof.Formula.lean ====
module

public import proofs.«01_k».proof.Proof.Count
public import Idealize.ShloMosaic.PureOps.Ideal.Laws
public import Idealize.ShloMosaic.Lib.IdealHost

/-! The reference's results at a query and a column, and the two formulas compared over the extended reals. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.ValueIdx

/-! ### The constants -/

theorem one32_eq : one32 = 1 := Ideal.ofBits_one_f32
theorem two32_eq : two32 = 2 := by
  unfold two32
  simp [Ideal.ofBits, Ideal.ieee, -EReal.coe_mul]
  norm_num
  rfl
theorem sd32_eq : ∃ s : ℝ, s ≠ 0 ∧ sd32 = (s : EReal) := by
  unfold sd32
  simp only [Ideal.ofBits, Ideal.ieee]
  norm_num
  refine ⟨_, ?_, rfl⟩
  split <;> norm_num <;> exact zpow_ne_zero _ (by norm_num)
theorem sdm32_eq : ∃ s : ℝ, s ≠ 0 ∧ sdm32 = (s : EReal) := by
  unfold sdm32
  simp only [Ideal.ofBits, Ideal.ieee]
  norm_num
  refine ⟨_, ?_, rfl⟩
  split <;> norm_num <;> exact zpow_ne_zero _ (by norm_num)

/-! ### The formulas -/

/-- The reference's estimate, from the inner product and the bit count. -/
def refEst (ip pop qd qv sq o : EReal) : EReal :=
  Ideal.div (Ideal.div (two32 * qd) sd32 * ip + Ideal.div (two32 * qv) sd32 * pop - Ideal.div qd sd32 * sq - sd32 * qv) o

/-- The reference's bound. -/
def refBound (nq d o : EReal) : EReal :=
  Ideal.div (Ideal.div (two32 * d * nq * Ideal.sqrt (one32 - o * o)) o * eps32) sdm32

/-- Division by a number other than zero. -/
theorem div_of_ne (x y : EReal) (h : y ≠ 0) : Ideal.div x y = x * y⁻¹ := by
  unfold Ideal.div
  rw [if_neg h]

/-- Two subtractions, or one of the sum, when the second amount is finite. -/
theorem sub_add_fin (x y z : EReal) (h : z ≠ ⊥) (h' : z ≠ ⊤) : x - (y + z) = x - y - z := by
  rw [sub_eq_add_neg, EReal.neg_add (Or.inr h') (Or.inr h), sub_eq_add_neg, ← add_assoc, ← sub_eq_add_neg, ← sub_eq_add_neg]

theorem est_agree (ip pop : ℕ) (qd qv sq o : EReal) (hq : qv ≠ ⊥) (hq' : qv ≠ ⊤) (ho : o ≠ 0) :
    (Ideal.div qd sd32 * (((2 * ip : ℕ) : ℝ) : EReal) + Ideal.div (two32 * qv) sd32 * ((pop : ℝ) : EReal)
        - (Ideal.div qd sd32 * sq + sd32 * qv)) * Ideal.div one32 o
      = refEst ((ip : ℝ) : EReal) ((pop : ℝ) : EReal) qd qv sq o := by
  unfold refEst
  obtain ⟨s, hs, es⟩ := sd32_eq
  have hs' : (s : EReal) ≠ 0 := by exact_mod_cast hs
  lift qv to ℝ using ⟨hq', hq⟩
  have e2 : (((2 * ip : ℕ) : ℝ) : EReal) = two32 * ((ip : ℝ) : EReal) := by
    rw [two32_eq, coe_two, ← EReal.coe_mul]
    push_cast
    rfl
  have ef : sd32 * (qv : EReal) = ((s * qv : ℝ) : EReal) := by rw [es, EReal.coe_mul]
  rw [sub_add_fin _ _ _ (by rw [ef]; exact EReal.coe_ne_bot _) (by rw [ef]; exact EReal.coe_ne_top _), div_of_ne one32 o ho, one32_eq, one_mul,
    div_of_ne _ o ho, e2]
  refine congrArg (fun z => (z + _ - _ - _) * _) ?_
  rw [es, div_of_ne _ _ hs', div_of_ne _ _ hs']
  ac_rfl

theorem bound_agree (nq d o : EReal) (ho : o ≠ 0) :
    nq * Ideal.div (Ideal.div (two32 * d * Ideal.sqrt (one32 - o * o)) o * eps32) sdm32 = refBound nq d o := by
  unfold refBound
  obtain ⟨s, hs, es⟩ := sdm32_eq
  have hs' : (s : EReal) ≠ 0 := by exact_mod_cast hs
  rw [es, div_of_ne _ _ hs', div_of_ne _ _ hs', div_of_ne _ o ho, div_of_ne _ o ho]
  ac_rfl

/-! ### The reference at an index -/

/-- The reference's estimate at a query and a column. -/
theorem ref_est (x0 : Cert.ReferenceIdeal.S3000x4x12.Idx → BitVec 32) (x1 : Cert.ReferenceIdeal.S3000.Idx → EReal) (x2 : Cert.ReferenceIdeal.S3000.Idx → EReal) (x4 : Cert.ReferenceIdeal.S3000.Idx → EReal) (x5 : Cert.ReferenceIdeal.S20480x12.Idx → BitVec 32) (x7 : Cert.ReferenceIdeal.S20480.Idx → EReal) (r : Fin 3000) (n : Fin 20480) :
    Cert.ReferenceIdeal.Read.val_main_v50 (F := Ideal) x0 x1 x2 x4 x5 x7 (ix2 r n)
      = refEst ((ipW (fun w j => x0 (ix3 r j w)) (fun w => x5 (ix2 n w)) : ℝ) : EReal) ((popW (fun w => x5 (ix2 n w)) : ℝ) : EReal)
          (x1 (ix1 r)) (x2 (ix1 r)) (x4 (ix1 r)) (x7 (ix1 n)) := by
  have er : ∀ i : Cert.ReferenceIdeal.S3000.Idx, (i 0).val = r.val → i = ix1 r := fun i h => funext fun a => match a with
    | ⟨0, _⟩ => Fin.ext h
  have en : ∀ i : Cert.ReferenceIdeal.S20480.Idx, (i 0).val = n.val → i = ix1 n := fun i h => funext fun a => match a with
    | ⟨0, _⟩ => Fin.ext h
  have h15 : Cert.ReferenceIdeal.Read.val_main_v15 (F := Ideal) x0 x5 (ix2 r n) = ((ipW (fun w j => x0 (ix3 r j w)) (fun w => x5 (ix2 n w)) : ℝ) : EReal) := by
    have h := ref_ip x0 x5 r n
    rw [Cert.ReferenceIdeal.Read.val_main_v15_apply]
    generalize Cert.ReferenceIdeal.Read.val_main_v14 (F := Ideal) x0 x5 (ix2 r n) = b at h ⊢
    show ((b.toInt : ℝ) : EReal) = _
    rw [h, Int.cast_natCast]
  have h34 : Cert.ReferenceIdeal.Read.val_main_v34 (F := Ideal) x5 (ix2 r n) = ((popW (fun w => x5 (ix2 n w)) : ℝ) : EReal) := by
    have h := ref_pop x5 n
    rw [Cert.ReferenceIdeal.Read.val_main_v34_apply, Cert.ReferenceIdeal.Read.val_main_v32_apply, en (Cert.ReferenceIdeal.Read.idx_main_v32 (Cert.ReferenceIdeal.Read.idx_main_v34 (ix2 r n))) rfl, Cert.ReferenceIdeal.Read.val_main_v19_apply]
    generalize Cert.ReferenceIdeal.Read.val_main_v18 (F := Ideal) x5 (ix1 n) = b at h ⊢
    show ((b.toInt : ℝ) : EReal) = _
    rw [h, Int.cast_natCast]
  rw [Cert.ReferenceIdeal.Read.val_main_v50_apply, Cert.ReferenceIdeal.Read.val_main_v47_apply, Cert.ReferenceIdeal.Read.val_main_v42_apply, Cert.ReferenceIdeal.Read.val_main_v36_apply, Cert.ReferenceIdeal.Read.val_main_v26_apply, Cert.ReferenceIdeal.Read.val_main_v35_apply, h15, h34]
  simp only [Cert.ReferenceIdeal.Read.val_main_v25_apply, Cert.ReferenceIdeal.Read.val_main_v24_apply, Cert.ReferenceIdeal.Read.val_main_v23_apply, Cert.ReferenceIdeal.Read.val_main_v21_apply, Cert.ReferenceIdeal.Read.val_main_v20_apply, Cert.ReferenceIdeal.Read.val_main_cst_apply, Cert.ReferenceIdeal.Read.val_main_v22_apply, Cert.ReferenceIdeal.Read.val_main_cst_3_apply, Cert.ReferenceIdeal.Read.val_main_v33_apply, Cert.ReferenceIdeal.Read.val_main_v31_apply, Cert.ReferenceIdeal.Read.val_main_v30_apply, Cert.ReferenceIdeal.Read.val_main_v28_apply, Cert.ReferenceIdeal.Read.val_main_v27_apply, Cert.ReferenceIdeal.Read.val_main_cst_4_apply, Cert.ReferenceIdeal.Read.val_main_v29_apply, Cert.ReferenceIdeal.Read.val_main_cst_5_apply, Cert.ReferenceIdeal.Read.val_main_v41_apply, Cert.ReferenceIdeal.Read.val_main_v40_apply, Cert.ReferenceIdeal.Read.val_main_v39_apply, Cert.ReferenceIdeal.Read.val_main_v38_apply, Cert.ReferenceIdeal.Read.val_main_v37_apply, Cert.ReferenceIdeal.Read.val_main_cst_6_apply, Cert.ReferenceIdeal.Read.val_main_v46_apply, Cert.ReferenceIdeal.Read.val_main_v45_apply, Cert.ReferenceIdeal.Read.val_main_v44_apply, Cert.ReferenceIdeal.Read.val_main_v43_apply, Cert.ReferenceIdeal.Read.val_main_cst_7_apply, Cert.ReferenceIdeal.Read.val_main_v49_apply, Cert.ReferenceIdeal.Read.val_main_v48_apply]
  rw [er (Cert.ReferenceIdeal.Read.idx_main_v24 (Cert.ReferenceIdeal.Read.idx_main_v25 (ix2 r n))) rfl, er (Cert.ReferenceIdeal.Read.idx_main_v31 (Cert.ReferenceIdeal.Read.idx_main_v33 (ix2 r n))) rfl,
    er (Cert.ReferenceIdeal.Read.idx_main_v40 (Cert.ReferenceIdeal.Read.idx_main_v41 (ix2 r n))) rfl, er (Cert.ReferenceIdeal.Read.idx_main_v45 (Cert.ReferenceIdeal.Read.idx_main_v46 (ix2 r n))) rfl,
    en (Cert.ReferenceIdeal.Read.idx_main_v48 (Cert.ReferenceIdeal.Read.idx_main_v49 (ix2 r n))) rfl]
  rfl

/-- The reference's distance. -/
theorem ref_dist (x0 : Cert.ReferenceIdeal.S3000x4x12.Idx → BitVec 32) (x1 : Cert.ReferenceIdeal.S3000.Idx → EReal) (x2 : Cert.ReferenceIdeal.S3000.Idx → EReal) (x3 : Cert.ReferenceIdeal.S3000.Idx → EReal) (x4 : Cert.ReferenceIdeal.S3000.Idx → EReal) (x5 : Cert.ReferenceIdeal.S20480x12.Idx → BitVec 32) (x6 : Cert.ReferenceIdeal.S20480.Idx → EReal) (x7 : Cert.ReferenceIdeal.S20480.Idx → EReal) (r : Fin 3000) (n : Fin 20480) :
    Cert.ReferenceIdeal.Read.val_main_v66 (F := Ideal) x0 x1 x2 x3 x4 x5 x6 x7 (ix2 r n)
      = x6 (ix1 n) * x6 (ix1 n) + x3 (ix1 r) * x3 (ix1 r)
          - two32 * x6 (ix1 n) * x3 (ix1 r) * Cert.ReferenceIdeal.Read.val_main_v50 (F := Ideal) x0 x1 x2 x4 x5 x7 (ix2 r n) := by
  rw [Cert.ReferenceIdeal.Read.val_main_v66_apply, Cert.ReferenceIdeal.Read.val_main_v65_apply]
  generalize Cert.ReferenceIdeal.Read.val_main_v50 (F := Ideal) x0 x1 x2 x4 x5 x7 (ix2 r n) = e
  simp only [Cert.ReferenceIdeal.Read.val_main_v57_apply, Cert.ReferenceIdeal.Read.val_main_v55_apply, Cert.ReferenceIdeal.Read.val_main_v52_apply, Cert.ReferenceIdeal.Read.val_main_v51_apply, Cert.ReferenceIdeal.Read.val_main_v56_apply, Cert.ReferenceIdeal.Read.val_main_v54_apply, Cert.ReferenceIdeal.Read.val_main_v53_apply, Cert.ReferenceIdeal.Read.val_main_v64_apply, Cert.ReferenceIdeal.Read.val_main_v62_apply, Cert.ReferenceIdeal.Read.val_main_v60_apply, Cert.ReferenceIdeal.Read.val_main_v59_apply, Cert.ReferenceIdeal.Read.val_main_cst_8_apply, Cert.ReferenceIdeal.Read.val_main_v58_apply, Cert.ReferenceIdeal.Read.val_main_v63_apply, Cert.ReferenceIdeal.Read.val_main_v61_apply]
  have er : ∀ i : Cert.ReferenceIdeal.S3000.Idx, (i 0).val = r.val → i = ix1 r := fun i h => funext fun a => match a with
    | ⟨0, _⟩ => Fin.ext h
  have en : ∀ i : Cert.ReferenceIdeal.S20480.Idx, (i 0).val = n.val → i = ix1 n := fun i h => funext fun a => match a with
    | ⟨0, _⟩ => Fin.ext h
  rw [en (Cert.ReferenceIdeal.Read.idx_main_v51 (Cert.ReferenceIdeal.Read.idx_main_v55 (ix2 r n))) rfl, er (Cert.ReferenceIdeal.Read.idx_main_v53 (Cert.ReferenceIdeal.Read.idx_main_v56 (ix2 r n))) rfl,
    en (Cert.ReferenceIdeal.Read.idx_main_v58 (Cert.ReferenceIdeal.Read.idx_main_v62 (ix2 r n))) rfl, er (Cert.ReferenceIdeal.Read.idx_main_v61 (Cert.ReferenceIdeal.Read.idx_main_v63 (ix2 r n))) rfl]
  rfl

/-- The reference's bound. -/
theorem ref_bound (x3 : Cert.ReferenceIdeal.S3000.Idx → EReal) (x6 : Cert.ReferenceIdeal.S20480.Idx → EReal) (x7 : Cert.ReferenceIdeal.S20480.Idx → EReal) (r : Fin 3000) (n : Fin 20480) :
    Cert.ReferenceIdeal.Read.val_main_v87 (F := Ideal) x3 x6 x7 (ix2 r n) = refBound (x3 (ix1 r)) (x6 (ix1 n)) (x7 (ix1 n)) := by
  simp only [Cert.ReferenceIdeal.Read.val_main_v87_apply, Cert.ReferenceIdeal.Read.val_main_v85_apply, Cert.ReferenceIdeal.Read.val_main_v83_apply, Cert.ReferenceIdeal.Read.val_main_v80_apply, Cert.ReferenceIdeal.Read.val_main_v73_apply, Cert.ReferenceIdeal.Read.val_main_v71_apply, Cert.ReferenceIdeal.Read.val_main_v69_apply, Cert.ReferenceIdeal.Read.val_main_v68_apply, Cert.ReferenceIdeal.Read.val_main_cst_9_apply, Cert.ReferenceIdeal.Read.val_main_v67_apply, Cert.ReferenceIdeal.Read.val_main_v72_apply, Cert.ReferenceIdeal.Read.val_main_v70_apply, Cert.ReferenceIdeal.Read.val_main_v79_apply, Cert.ReferenceIdeal.Read.val_main_v78_apply, Cert.ReferenceIdeal.Read.val_main_v77_apply, Cert.ReferenceIdeal.Read.val_main_v76_apply, Cert.ReferenceIdeal.Read.val_main_v75_apply, Cert.ReferenceIdeal.Read.val_main_cst_10_apply, Cert.ReferenceIdeal.Read.val_main_v74_apply, Cert.ReferenceIdeal.Read.val_main_v82_apply, Cert.ReferenceIdeal.Read.val_main_v81_apply, Cert.ReferenceIdeal.Read.val_main_v84_apply, Cert.ReferenceIdeal.Read.val_main_cst_11_apply, Cert.ReferenceIdeal.Read.val_main_v86_apply, Cert.ReferenceIdeal.Read.val_main_cst_12_apply]
  have er : ∀ i : Cert.ReferenceIdeal.S3000.Idx, (i 0).val = r.val → i = ix1 r := fun i h => funext fun a => match a with
    | ⟨0, _⟩ => Fin.ext h
  have en : ∀ i : Cert.ReferenceIdeal.S20480.Idx, (i 0).val = n.val → i = ix1 n := fun i h => funext fun a => match a with
    | ⟨0, _⟩ => Fin.ext h
  rw [en (Cert.ReferenceIdeal.Read.idx_main_v67 (Cert.ReferenceIdeal.Read.idx_main_v71 (ix2 r n))) rfl, er (Cert.ReferenceIdeal.Read.idx_main_v70 (Cert.ReferenceIdeal.Read.idx_main_v72 (ix2 r n))) rfl,
    en (Cert.ReferenceIdeal.Read.idx_main_v78 (Cert.ReferenceIdeal.Read.idx_main_v79 (ix2 r n))) rfl, en (Cert.ReferenceIdeal.Read.idx_main_v81 (Cert.ReferenceIdeal.Read.idx_main_v82 (ix2 r n))) rfl]
  rfl

end Cert.Proof.KernelIdeal
-- ==== Proof.Agree.lean ====
module

public import proofs.«01_k».proof.Proof.Sources
public import proofs.«01_k».proof.Proof.Formula
public import proofs.«01_k».proof.Defs

/-! The kernel's results and the reference's, equal where the precondition holds. -/

@[expose] public section

set_option maxRecDepth 16384

noncomputable section

namespace Cert.Proof.KernelIdeal

open Cert.KernelIdeal Cert.KernelIdeal.Gen
open Idealize.ShloMosaic hiding ix1 ix2 ix3 ix4
open Idealize.ShloMosaic.TcCoe Idealize.ShloMosaic.Tactic

open Idealize.ShloMosaic.ValueIdx

/-! ### The precondition -/

instance pre_facts : Cert.Pre_finite_and_nonzero.Facts where
  bcast_S_S3000 := by decide
  bcast_S3000_S3000x1_0 := by decide
  bcast_S_S20480 := by decide
  bcast_S20480_S1x20480_1 := by decide
  bcast_S3000x1_S3000x20480_0_1 := by decide
  bcast_S1x20480_S3000x20480_0_1 := by decide

/-- The two infinities' words. -/
theorem top32 : Ideal.ofBits .f32 0x7F800000#32 = ⊤ := by simp [Ideal.ofBits, Ideal.ieee]
theorem bot32 : Ideal.ofBits .f32 0xFF800000#32 = ⊥ := by simp [Ideal.ofBits, Ideal.ieee]

theorem and_one (a b : BitVec 1) (h : a &&& b = 1#1) : a = 1#1 ∧ b = 1#1 := by
  revert a b
  decide

theorem ofBool_one (b : Bool) (h : BitVec.ofBool b = 1#1) : b = true := by
  revert b
  decide

/-- What the precondition says of a query and of a database column. -/
theorem pre_at (x0 : Cert.Pre_finite_and_nonzero.S3000x4x12.Idx → BitVec 32) (x1 x2 x3 x4 : Cert.Pre_finite_and_nonzero.S3000.Idx → EReal)
    (x5 : Cert.Pre_finite_and_nonzero.S20480x12.Idx → BitVec 32) (x6 x7 : Cert.Pre_finite_and_nonzero.S20480.Idx → EReal)
    (h : Cert.Pre_finite_and_nonzero.fn (F := Ideal) x0 x1 x2 x3 x4 x5 x6 x7 = fun _ => 1#1) (r : Fin 3000) (n : Fin 20480) :
    x2 (ix1 r) ≠ ⊥ ∧ x2 (ix1 r) ≠ ⊤ ∧ x7 (ix1 n) ≠ 0 := by
  have e := congrFun h (ix2 r n)
  have er : ∀ i : Cert.Pre_finite_and_nonzero.S3000.Idx, (i 0).val = r.val → i = ix1 r := fun i h => funext fun a => match a with
    | ⟨0, _⟩ => Fin.ext h
  have en : ∀ i : Cert.Pre_finite_and_nonzero.S20480.Idx, (i 0).val = n.val → i = ix1 n := fun i h => funext fun a => match a with
    | ⟨0, _⟩ => Fin.ext h
  obtain ⟨e1, e2⟩ := and_one _ _ e
  obtain ⟨e3, e4⟩ := and_one _ _ e1
  have g3 := of_decide_eq_true (ofBool_one _ e3)
  have g4 := of_decide_eq_true (ofBool_one _ e4)
  have g2 := of_decide_eq_true (ofBool_one _ e2)
  refine ⟨?_, ?_, ?_⟩
  · exact ne_of_gt (lt_of_lt_of_eq (lt_of_le_of_lt bot_le g3) (congrArg x2 (er _ rfl)))
  · exact ne_of_lt (lt_of_eq_of_lt (congrArg x2 (er _ rfl)).symm (lt_of_lt_of_le g4 le_top))
  · exact fun z => g2 ((congrArg x7 (en _ rfl)).trans <| z.trans Ideal.ofBits_zero_f32.symm)

/-! ### The results -/

variable (m : (ℓ : Loc nD τ sig) → Buf (Elt Ideal) ℓ)

/-- What the kernel reads, in the arguments. -/
theorem src_at (c : Dev nD) (r : Fin 3000) (n : Fin 20480) :
    (src m c).P r.val = (fun w j => arg0 m c (ix3 r j w)) ∧ (src m c).qd r.val = arg1 m c (ix1 r) ∧ (src m c).qv r.val = arg2 m c (ix1 r)
      ∧ (src m c).nq r.val = arg3 m c (ix1 r) ∧ (src m c).sq r.val = arg4 m c (ix1 r) ∧ (src m c).A n.val = (fun w => arg5 m c (ix2 n w))
      ∧ (src m c).d n.val = arg6 m c (ix1 n) ∧ (src m c).o n.val = arg7 m c (ix1 n) := by
  have er : row r.val = r := Fin.ext (row_val r.val r.isLt)
  have en : col n.val = n := Fin.ext (col_val n.val n.isLt)
  refine ⟨funext fun w => funext fun j => ?_, ?_, ?_, ?_, ?_, funext fun w => ?_, ?_, ?_⟩
  · show arr0 m c (ix3 w j (row r.val)) = _
    rw [er, arr0_at]
  · show arr1 m c (ix2 0 (row r.val)) = _
    rw [er, arr1_at]
  · show arr2 m c (ix2 0 (row r.val)) = _
    rw [er, arr2_at]
  · show arr3 m c (ix2 0 (row r.val)) = _
    rw [er, arr3_at]
  · show arr4 m c (ix2 0 (row r.val)) = _
    rw [er, arr4_at]
  · show arr5 m c (ix2 w (col n.val)) = _
    rw [en, arr5_at]
  · show arr6 m c (ix2 0 (col n.val)) = _
    rw [en, arr6_at]
  · show arr7 m c (ix2 0 (col n.val)) = _
    rw [en, arr7_at]

/-- A place of the result arrays. -/
theorem place_eq (y : S3000x20480.Idx) : ∃ (r : Fin 3000) (n : Fin 20480), y = ix2 r n :=
  ⟨⟨(y 0).val, (y 0).isLt⟩, ⟨(y 1).val, (y 1).isLt⟩, Shape.idx_ext₂ rfl rfl⟩

section
variable (c : Dev nD) (ho : ∀ n : Fin 20480, arg7 m c (ix1 n) ≠ 0)
include ho

theorem est_eq (hv : ∀ r : Fin 3000, arg2 m c (ix1 r) ≠ ⊥ ∧ arg2 m c (ix1 r) ≠ ⊤) (r : Fin 3000) (n : Fin 20480) :
    (src m c).est r.val n.val
      = Cert.ReferenceIdeal.Read.val_main_v50 (F := Ideal) (arg0 m c) (arg1 m c) (arg2 m c) (arg4 m c) (arg5 m c) (arg7 m c) (ix2 r n) := by
  obtain ⟨hP, hqd, hqv, hnq, hsq, hA, hd, hoo⟩ := src_at m c r n
  refine Eq.trans ?_ (ref_est (arg0 m c) (arg1 m c) (arg2 m c) (arg4 m c) (arg5 m c) (arg7 m c) r n).symm
  unfold Src.est
  rw [hP, hqd, hqv, hnq, hsq, hA, hd, hoo]
  unfold estW
  rw [accW_eq]
  exact est_agree _ _ _ _ _ _ (hv r).1 (hv r).2 (ho n)

theorem resE_eq (hv : ∀ r : Fin 3000, arg2 m c (ix1 r) ≠ ⊥ ∧ arg2 m c (ix1 r) ≠ ⊤) :
    resE m c = Cert.ReferenceIdeal.Read.val_main_v50 (F := Ideal) (arg0 m c) (arg1 m c) (arg2 m c) (arg4 m c) (arg5 m c) (arg7 m c) :=
  funext fun y => by
    obtain ⟨r, n, e⟩ := place_eq y
    rw [e]
    exact est_eq m c ho hv r n

theorem resD_eq (hv : ∀ r : Fin 3000, arg2 m c (ix1 r) ≠ ⊥ ∧ arg2 m c (ix1 r) ≠ ⊤) :
    resD m c = Cert.ReferenceIdeal.Read.val_main_v66 (F := Ideal) (arg0 m c) (arg1 m c) (arg2 m c) (arg3 m c) (arg4 m c) (arg5 m c) (arg6 m c) (arg7 m c) :=
  funext fun y => by
    obtain ⟨r, n, e⟩ := place_eq y
    rw [e]
    refine Eq.trans ?_ (ref_dist (arg0 m c) (arg1 m c) (arg2 m c) (arg3 m c) (arg4 m c) (arg5 m c) (arg6 m c) (arg7 m c) r n).symm
    rw [← est_eq m c ho hv r n]
    obtain ⟨hP, hqd, hqv, hnq, hsq, hA, hd, hoo⟩ := src_at m c r n
    rw [← hnq, ← hd]
    rfl

theorem resB_eq : resB m c = Cert.ReferenceIdeal.Read.val_main_v87 (F := Ideal) (arg3 m c) (arg6 m c) (arg7 m c) :=
  funext fun y => by
    obtain ⟨r, n, e⟩ := place_eq y
    rw [e]
    refine Eq.trans ?_ (ref_bound (arg3 m c) (arg6 m c) (arg7 m c) r n).symm
    obtain ⟨hP, hqd, hqv, hnq, hsq, hA, hd, hoo⟩ := src_at m c r n
    rw [← bound_agree _ _ _ (ho n), ← hnq, ← hd, ← hoo]
    rfl

end

end Cert.Proof.KernelIdeal
-- ==== Proof.lean ====
/-
The proof of `Cert.Claim`.
-/
module

public import proofs.«01_k».proof.Defs
public import proofs.«01_k».proof.Proof.KFrameOnly
public import proofs.«01_k».proof.Proof.FrameOnly
public import proofs.«01_k».proof.Proof.RefRun
public import proofs.«01_k».proof.Proof.Value
public import proofs.«01_k».proof.Proof.Agree
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem

/-- The reference's frame, from its run; it has no semaphore. -/
theorem frame_ref : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The kernel's results are the reference's, over the extended reals. -/
theorem algebraic : Cert.algebraic_KernelIdeal_ReferenceIdeal_pre_finite_and_nonzero := by
  intro m g m' g' hpre hargs
  refine ⟨KernelIdeal.resD m, KernelIdeal.resB m, KernelIdeal.resE m, ?_, ?_⟩
  · exact (θ_run Cert.KernelIdeal.defs _ _).mono (fun r h c => ⟨(h c).1.1, (h c).1.2.1, (h c).1.2.2, (h c).2⟩) (KernelIdeal.run m g)
  · refine (θ_run Cert.ReferenceIdeal.defs _ _).mono (fun r h c => ?_) (Cert.ReferenceIdeal.Value.run (F := Ideal) m' g')
    obtain ⟨a0, a1, a2, a3, a4, a5, a6, a7⟩ := hargs c
    have hp := KernelIdeal.pre_at _ _ _ _ _ _ _ _ (hpre c)
    have hv : ∀ r : Fin 3000, KernelIdeal.arg2 m c (ValueIdx.ix1 r) ≠ ⊥ ∧ KernelIdeal.arg2 m c (ValueIdx.ix1 r) ≠ ⊤ := fun r => ⟨(hp r 0).1, (hp r 0).2.1⟩
    have ho : ∀ n : Fin 20480, KernelIdeal.arg7 m c (ValueIdx.ix1 n) ≠ 0 := fun n => (hp 0 n).2.2
    refine ⟨(h c).1.trans ?_, (h c).2.1.trans ?_, (h c).2.2.1.trans ?_, (h c).2.2.2⟩
    · rw [a0, a1, a2, a3, a4, a5, a6, a7]
      exact (Cert.ReferenceIdeal.Read.val_main_v66_eq _ _ _ _ _ _ _ _).trans (KernelIdeal.resD_eq m c ho hv).symm
    · rw [a3, a6, a7]
      exact (Cert.ReferenceIdeal.Read.val_main_v87_eq _ _ _).trans (KernelIdeal.resB_eq m c ho).symm
    · rw [a0, a1, a2, a4, a5, a7]
      exact (Cert.ReferenceIdeal.Read.val_main_v50_eq _ _ _ _ _ _).trans (KernelIdeal.resE_eq m c ho hv).symm

theorem claim : Cert.Claim :=
  ⟨Cert.Kernel.Gen.facts, Cert.KernelIdeal.Gen.facts, Cert.ReferenceIdeal.Gen.facts, KernelIdeal.pre_facts,
    fun m ρ _ => Cert.Proof.Kernel.frame m ρ, fun m ρ _ => Cert.Proof.KernelIdeal.frame m ρ, fun m ρ _ => Cert.Proof.KernelIdeal.frame m ρ,
    frame_ref, fun m ρ _ => frame_ref m ρ trivial, trivial, algebraic⟩

end Cert.Proof

end
